-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane_KernelIdeal [hPre_sane_KernelIdeal : Cert.Pre_sane_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_sane_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane_ReferenceIdeal [hPre_sane_ReferenceIdeal : Cert.Pre_sane_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sane_KernelIdeal [hKernelIdeal : Cert.KernelIdeal.Facts] [hPre_sane_KernelIdeal : Cert.Pre_sane_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sane_ReferenceIdeal [hReferenceIdeal : Cert.ReferenceIdeal.Facts] [hPre_sane_ReferenceIdeal : Cert.Pre_sane_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sane_KernelIdeal [hKernelIdeal : Cert.KernelIdeal.Facts] [hReferenceIdeal : Cert.ReferenceIdeal.Facts] [hPre_sane_KernelIdeal : Cert.Pre_sane_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sane_KernelIdeal : Cert.Pre_sane_KernelIdeal.Facts) (hPre_sane_ReferenceIdeal : Cert.Pre_sane_ReferenceIdeal.Facts),
    quiescent_Kernel (hKernel := hKernel)
    ∧ quiescent_KernelIdeal (hKernelIdeal := hKernelIdeal)
    ∧ quiescent_KernelIdeal_pre_sane_KernelIdeal (hKernelIdeal := hKernelIdeal) (hPre_sane_KernelIdeal := hPre_sane_KernelIdeal)
    ∧ quiescent_ReferenceIdeal (hReferenceIdeal := hReferenceIdeal)
    ∧ quiescent_ReferenceIdeal_pre_sane_ReferenceIdeal (hReferenceIdeal := hReferenceIdeal) (hPre_sane_ReferenceIdeal := hPre_sane_ReferenceIdeal)
    ∧ preserves_Kernel_KernelIdeal
    ∧ algebraic_KernelIdeal_ReferenceIdeal_pre_sane_KernelIdeal (hKernelIdeal := hKernelIdeal) (hReferenceIdeal := hReferenceIdeal) (hPre_sane_KernelIdeal := hPre_sane_KernelIdeal)
-- ==== Pre_sane_KernelIdeal.lean ====
abbrev S512x1024 : Shape := ⟨2, ![512, 1024]⟩
abbrev S1024x8192 : Shape := ⟨2, ![1024, 8192]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x1024 .f32) (main_arg1 : FVec F S1024x8192 .f32) (main_arg2 : IVec S512x1 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 1 := constantI S_ 1 1#1
  let main_v11 : IVec S_ 1 := (fun x v => Host.reduce IntOp.andi x v reducesTo_S512x1_S_d0_1 h_S_) main_v10 main_c_3
  let main_v12 : IVec S_ 1 := andi main_v8 main_v11
  let main_c_4 : IVec S_ 32 := constantI S_ 32 16384#32
  let main_v13 : IVec S512x1 32 := broadcastInDim S512x1 ![] bcast_S_S512x1 main_c_4
  let main_v14 : IVec S512x1 1 := cmpi .slt main_arg2 main_v13
  let main_c_5 : IVec S_ 1 := constantI S_ 1 1#1
  let main_v15 : IVec S_ 1 := (fun x v => Host.reduce IntOp.andi x v reducesTo_S512x1_S_d0_1 h_S_) main_v14 main_c_5
  fn_part1 (F := F) main_v12 main_v15
-- ==== Pre_sane_ReferenceIdeal.lean ====
abbrev S512x1024 : Shape := ⟨2, ![512, 1024]⟩
abbrev S1024x16384 : Shape := ⟨2, ![1024, 16384]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x1024 .f32) (main_arg1 : FVec F S1024x16384 .f32) (main_arg2 : IVec S512x1 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 1 := constantI S_ 1 1#1
  let main_v11 : IVec S_ 1 := (fun x v => Host.reduce IntOp.andi x v reducesTo_S512x1_S_d0_1 h_S_) main_v10 main_c_3
  let main_v12 : IVec S_ 1 := andi main_v8 main_v11
  let main_c_4 : IVec S_ 32 := constantI S_ 32 16384#32
  let main_v13 : IVec S512x1 32 := broadcastInDim S512x1 ![] bcast_S_S512x1 main_c_4
  let main_v14 : IVec S512x1 1 := cmpi .slt main_arg2 main_v13
  let main_c_5 : IVec S_ 1 := constantI S_ 1 1#1
  let main_v15 : IVec S_ 1 := (fun x v => Host.reduce IntOp.andi x v reducesTo_S512x1_S_d0_1 h_S_) main_v14 main_c_5
  fn_part1 (F := F) main_v12 main_v15
-- ==== Kernel.lean ====
abbrev S512x1024 : Shape := ⟨2, ![512, 1024]⟩
abbrev S1024x8192 : Shape := ⟨2, ![1024, 8192]⟩
abbrev S512x1 : Shape := ⟨2, ![512, 1]⟩
abbrev S512x2 : Shape := ⟨2, ![512, 2]⟩
abbrev S16 : Shape := ⟨1, ![16]⟩
abbrev S_ : Shape := ⟨0, ![]⟩
abbrev S1 : Shape := ⟨1, ![1]⟩
abbrev S1024x512 : Shape := ⟨2, ![1024, 512]⟩
abbrev S512x512 : Shape := ⟨2, ![512, 512]⟩
abbrev S512 : Shape := ⟨1, ![512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x1, .i32⟩
  | .hbm, ⟨3, _⟩ => ⟨S512x1, .f32⟩
  | .local _ .vmem, ⟨0, _⟩ => ⟨S512x1024, .f32⟩
  | .local _ .vmem, ⟨1, _⟩ => ⟨S512x1, .i32⟩
  | .local _ .vmem, ⟨2, _⟩ => ⟨S512x1, .f32⟩
  | .local _ .vmem, ⟨3, _⟩ => ⟨S1024x8192, .f32⟩
  | .local _ .vmem, ⟨4, _⟩ => ⟨S512x2, .f32⟩
  | .local _ .vmem, ⟨5, _⟩ => ⟨S512x2, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v75 : BitVec 32 := Scalar.muli v2 c4_i32_57
  let v76 : BitVec 32 := Scalar.addi c0_i32_58 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v77 : BitVec 32 := Scalar.muli v5 c2_i32_59
  let v78 : BitVec 32 := Scalar.addi v76 v77
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_60 : BitVec 32 := 1#32
  let v79 : BitVec 32 := Scalar.muli v9 c1_i32_60
  let v80 : BitVec 32 := Scalar.addi v78 v79
  v80.toNat
def k0_dev2 (d0 : Dev nD) : Nat :=
  let c0_i32_261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_260 : BitVec 32 := 4#32
  let v460 : BitVec 32 := Scalar.muli v2 c4_i32_260
  let v461 : BitVec 32 := Scalar.addi c0_i32_261 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_262 : BitVec 32 := 2#32
  let v462 : BitVec 32 := Scalar.muli v5 c2_i32_262
  let v463 : BitVec 32 := Scalar.addi v461 v462
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_263 : BitVec 32 := 1#32
  let v464 : BitVec 32 := Scalar.muli v9 c1_i32_263
  let v465 : BitVec 32 := Scalar.addi v463 v464
  v465.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x1 : Shape := ⟨2, ![512, 1]⟩
abbrev S512 : Shape := ⟨1, ![512]⟩
abbrev S512x16384 : Shape := ⟨2, ![512, 16384]⟩
abbrev S_ : Shape := ⟨0, ![]⟩
abbrev S512x2 : Shape := ⟨2, ![512, 2]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x1, .i32⟩
  | .hbm, ⟨3, _⟩ => ⟨S512, .i32⟩
  | .hbm, ⟨4, _⟩ => ⟨S512x16384, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16384, .f32⟩
  | .hbm, ⟨9, _⟩ => ⟨S512x16384, .f32⟩
  | .hbm, ⟨10, _⟩ => ⟨S512x16384, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S512, .f32⟩
  | .hbm, ⟨37, _⟩ => ⟨S512x1, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Contents.lean ====
/-
What the kernel computes on one device, over any float values, as functions of what the device holds: its `x`, its
block of the weight and the labels. The kernel walks its 8192 columns of the weight in 16 chunks of 512; a chunk
contributes to each row the sum of the exponentials of its logits and the logit at the row's label (zero when the
label is not among the chunk's columns). The two running sums, side by side, are what a device sends to its mate;
the result is the logarithm of the two devices' first sums added, less their second sums added.
-/
module

public import proofs.«01_k».proof.Proof.Gen.KernelIdeal
public import proofs.«01_k».proof.Proof.Gen.KernelIdeal.Skeleton

@[expose] public section

noncomputable section

namespace Cert.Pair

open Cert.KernelIdeal Cert.KernelIdeal.Gen
open Idealize.ShloMosaic Idealize.ShloMosaic.TcCoe
open Idealize.SL Idealize.SL.Sem

variable {F : FTy → Type} [FloatOps F]

/-! ## One chunk -/

/-- The logits of a chunk: `x` in bf16 times the chunk's columns in bf16, summed in f32. -/
def logits (x : Vec F S512x1024 .f32) (w : Vec F S1024x512 .f32) : FVec F S512x512 .f32 :=
  matmul dot_S512x1024_S1024x512_S512x512_1_0_0_1_n_n none (truncf .bf16 (shapeCast S512x1024 x shapeCasts_S512x1024_S512x1024) bitsLt_bf16_f32)
    (truncf .bf16 w bitsLt_bf16_f32) (constant S512x512 .f32 0x00000000#32)

/-- The sum of each row of a chunk's 512 columns, as a column. -/
def rowSum (a : FVec F S512x512 .f32) : FVec F S512x1 .f32 :=
  shapeCast S512x1 (multiReduction .add [1] S512 a 0x00000000#32 reduces_S512x512_S512 (.inl rfl) rfl) shapeCasts_S512_S512x1

/-- Where a chunk's columns hold the row's label: the columns' numbers, `off` being the first's, against the labels. -/
def isLabel (off : BitVec 32) (lab : Vec F S512x1 .i32) : IVec S512x512 1 :=
  cmpi .eq (addi (iota .tc S512x512 32 [1] iota_S512x512_d1_w32) (broadcast S512x512 off))
    (broadcastTo S512x512 (shapeCast S512x1 lab shapeCasts_S512x1_S512x1) broadcasts_S512x1_S512x512)

/-- A chunk's logits at the row's label, zero elsewhere. -/
def labelLogits (off : BitVec 32) (lab : Vec F S512x1 .i32) (l : FVec F S512x512 .f32) : FVec F S512x512 .f32 :=
  select (isLabel off lab) l (broadcast S512x512 (Scalar.ofBits .f32 0x00000000#32))

/-! ## The two running sums -/

/-- The zero column both sums start from. -/
def zeroCol : FVec F S512x1 .f32 := broadcast S512x1 (Scalar.ofBits .f32 0x00000000#32)

/-- The first column number of chunk `j` on the device whose `z` coordinate is `z`. -/
def chunkOff (z : BitVec 32) (j : ℕ) : BitVec 32 := Scalar.addi (BitVec.ofNat 32 (512 * j)) (Scalar.muli z 8192#32)

variable (x : Vec F S512x1024 .f32) (lab : Vec F S512x1 .i32) (w : ℕ → Vec F S1024x512 .f32) (z : BitVec 32)

/-- The sum of exponentials after the first `n` chunks. -/
def expSum : ℕ → FVec F S512x1 .f32
  | 0 => zeroCol
  | n + 1 => addf (expSum n) (rowSum (exp (logits x (w n))))

/-- The label's logit after the first `n` chunks. -/
def labSum : ℕ → FVec F S512x1 .f32
  | 0 => zeroCol
  | n + 1 => addf (labSum n) (rowSum (labelLogits (chunkOff z n) lab (logits x (w n))))

/-- What a device sends: the two sums over its 16 chunks, side by side. -/
def sums : FVec F S512x2 .f32 :=
  shapeCast S512x2 (concatenate S512x2 1 [⟨S512x1, expSum x w 16⟩, ⟨S512x1, labSum x lab w z 16⟩] concatenates_S512x1_S512x1_S512x2_d1)
    shapeCasts_S512x2_S512x2

/-! ## The result -/

/-- The two columns of a block of sums. -/
def col0 (s : Vec F S512x2 .f32) : Vec F S512x1 .f32 := fun i => s ((Rect.unit (s := S512x2) ![0, 0] S512x1.size inb_S512x2_S512x1_0_0).emb i)
def col1 (s : Vec F S512x2 .f32) : Vec F S512x1 .f32 := fun i => s ((Rect.unit (s := S512x2) ![0, 1] S512x1.size inb_S512x2_S512x1_0_1).emb i)

/-- A device's result from its own sums `a` and its mate's `b`. -/
def nll (a b : Vec F S512x2 .f32) : FVec F S512x1 .f32 := subf (log (addf (col0 a) (col0 b))) (addf (col1 a) (col1 b))

/-! ## The device's own data -/

theorem chunk_inb (j : Fin 16) : ∀ a, (![0, 512 * j.val] : Fin 2 → Nat) a + S1024x512.size a ≤ S1024x8192.size a := by
  revert j; decide

/-- Columns `512 n` to `512 n + 511` of the weight's block `W` (`n` below 16). -/
def chunkOf (W : Vec F S1024x8192 .f32) (n : ℕ) : Vec F S1024x512 .f32 :=
  fun i => W ((Rect.unit (s := S1024x8192) ![0, 512 * (⟨n % 16, Nat.mod_lt _ (by decide)⟩ : Fin 16).val] S1024x512.size (chunk_inb _)).emb i)

/-- The `z` coordinate of a device. -/
def zOf (c : Dev nD) : BitVec 32 := Scalar.remsi (Scalar.divsi (Dev.word c) 1#32) 2#32

end Cert.Pair

end
-- ==== Proof.Swap.lean ====
/-
The exchange of the two partial sums between the two devices that differ in the mesh's `z` coordinate ("mates"), as a
schedule of the rounds library: who pays which semaphore, how much, and what a payment hands over.

Each device has three cells. Its barrier cell (the runtime's semaphore, one unit, paid by the mate) hands it the mate's
landing buffer: from then on the device may write there. Its receive cell (the block's credit, paid by the mate's
transfer) hands it its own landing buffer back, now holding the mate's sums. Its send cell (the same credit, paid by its
own transfer) hands it back the buffer of sums it sent.
-/
module

public import proofs.«01_k».proof.Proof.Contents
public import proofs.«01_k».proof.Proof.Gen.KernelIdeal.Launch
public import Idealize.ShloMosaic.Lib.Tactic

@[expose] public section

noncomputable section

namespace Cert.Pair

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resources -/

/-- The staging pipeline's rounds, the exchange's rounds, and the local copies' counters. -/
abbrev UU : Type := UR sig nD τ × (UR sig nD τ × Counters)

local notation "𝕄" => MT nD τ sig Unit (Elt F) ℕ UU ℕ

/-- The staging pipeline's part of the resources. -/
abbrev EP : Emb (UR sig nD τ) (MT nD τ sig Unit (Elt F) ℕ UU ℕ) := embL
/-- The exchange's part. -/
def EX : Emb (UR sig nD τ) (MT nD τ sig Unit (Elt F) ℕ UU ℕ) :=
  (Emb.inl : Emb (UR sig nD τ) (UR sig nD τ × Counters)).trans embR
instance EX_landsIn : (EX : Emb (UR sig nD τ) 𝕄).LandsIn (upEmb : UEmb _ 𝕄) := by unfold EX embR; infer_instance

/-! ## Mates -/

/-- The device at the same `x` and `y` and the other `z`: the number's last bit flipped. -/
def mate (c : Dev nD) : Dev nD := ⟨2 * (c.val / 2) + (1 - c.val % 2), by have := c.isLt; simp only [nD] at *; omega⟩

theorem mate_mate (c : Dev nD) : mate (mate c) = c := by revert c; decide

/-- Both device numbers the kernel computes, the signal's and the transfer's, are the mate's. -/
theorem signal_dev (c : Dev nD) : (⟨k0_dev1 c, k0_dev1_lt c⟩ : Dev nD) = mate c := by revert c; decide +kernel
theorem send_dev (c : Dev nD) : (⟨k0_dev2 c, k0_dev2_lt c⟩ : Dev nD) = mate c := by revert c; decide +kernel

/-- Mates exchanged, as a permutation of the devices. -/
def flip : Dev nD ≃ Dev nD := ⟨mate, mate, mate_mate, mate_mate⟩

/-! ## The buffers and the semaphores -/

/-- The buffer of sums a device sends. -/
abbrev accM : Memref sig .tc .vmem S512x2 .f32 := Memref.whole cc0_scratch1
/-- The buffer the mate's sums land in. -/
abbrev peerM : Memref sig .tc .vmem S512x2 .f32 := Memref.whole cc0_scratch2

abbrev barS : Sem sig := (SemArray.scalar (sig.barrier 0 rfl) : Sems sig S_).sem
abbrev sendS : DmaSem sig := (cc0_scratch4 : DmaSems sig S_).sem
abbrev recvS : DmaSem sig := (cc0_scratch5 : DmaSems sig S_).sem

/-- The three semaphores of the exchange: barrier, send, receive. -/
abbrev xsem : Fin 3 → SemLoc sig := fun | 0 => .reg barS | 1 => .dma sendS | 2 => .dma recvS
/-- Their cells, per device. -/
abbrev xcell (ck : Dev nD × Fin 3) : GSem nD τ sig := ((ck.1 : Thread nD τ), xsem ck.2)
abbrev barC (c : Dev nD) : GSem nD τ sig := xcell (c, 0)
abbrev sendC (c : Dev nD) : GSem nD τ sig := xcell (c, 1)
abbrev recvC (c : Dev nD) : GSem nD τ sig := xcell (c, 2)

theorem xsem_injective : Function.Injective xsem := by decide

theorem xcell_injective : Function.Injective (xcell : Dev nD × Fin 3 → GSem nD τ sig) := fun a b h =>
  Prod.ext (congrArg (fun g : GSem nD τ sig => g.1.1) h) (xsem_injective (congrArg Prod.snd h))

/-- The credit of a transfer of the block of sums. -/
abbrev N : ℕ := (peerM).view.dmaCredit
theorem N_pos : 0 < N := View.dmaCredit_pos _ (by decide)

/-! ## What the buffers hold -/

variable [FloatOps F]
variable (m : (ℓ : Loc nD τ sig) → Buf (Elt F) ℓ)

/-- A device's `x`, labels and block of the weight. -/
abbrev xOf (c : Dev nD) : Vec F S512x1024 .f32 := m ((c : Thread nD τ).loc main_arg0)
abbrev wOf (c : Dev nD) : Vec F S1024x8192 .f32 := m ((c : Thread nD τ).loc main_arg1)
abbrev labOf (c : Dev nD) : Vec F S512x1 .i32 := m ((c : Thread nD τ).loc main_arg2)

/-- The sums device `c` sends. -/
def sumsOf (c : Dev nD) : Vec F S512x2 .f32 := sums (xOf m c) (labOf m c) (chunkOf (wOf m c)) (zOf c)

/-- Device `c`'s result. -/
def outAt (c : Dev nD) : Vec F S512x1 .f32 := nll (sumsOf m c) (sumsOf m (mate c))

/-- The sending buffer of device `c` holding `f`. -/
def accPts (c : Dev nD) (f : Buf (Elt F) (accM.view.loc (c : Thread nD τ))) : sProp 𝕄 :=
  accM.view.loc (c : Thread nD τ) ↦[accM.view.set]{fullShare} f
/-- The landing buffer of device `c` holding `f`. -/
def peerPts (c : Dev nD) (f : Buf (Elt F) (peerM.view.loc (c : Thread nD τ))) : sProp 𝕄 :=
  peerM.view.loc (c : Thread nD τ) ↦[peerM.view.set]{fullShare} f

omit [FloatOps F] in
instance accPts_storable (c : Dev nD) (f) : BI.Storable (upEmb : UEmb _ 𝕄) (accPts (F := F) c f) := by unfold accPts; infer_instance
omit [FloatOps F] in
instance peerPts_storable (c : Dev nD) (f) : BI.Storable (upEmb : UEmb _ 𝕄) (peerPts (F := F) c f) := by unfold peerPts; infer_instance

omit [FloatOps F] in
theorem accPts_eq (c : Dev nD) (f : Buf (Elt F) ((c : Thread nD τ).loc cc0_scratch1)) :
    accPts c f = (((c : Thread nD τ).loc cc0_scratch1) ↦{fullShare} f : sProp 𝕄) := by unfold accPts; rw [View.set_whole]
omit [FloatOps F] in
theorem peerPts_eq (c : Dev nD) (f : Buf (Elt F) ((c : Thread nD τ).loc cc0_scratch2)) :
    peerPts c f = (((c : Thread nD τ).loc cc0_scratch2) ↦{fullShare} f : sProp 𝕄) := by unfold peerPts; rw [View.set_whole]

/-! ## The schedule -/

/-- What each cell's one payment hands the device it belongs to. -/
def handed (c : Dev nD) : Fin 3 → sProp 𝕄
  | 0 => iprop((∃ f, peerPts (mate c) f) ∗ reached EX (recvC (mate c)) 0)
  | 1 => accPts c (sumsOf m c)
  | 2 => peerPts c (sumsOf m (mate c))

/-- The index of a semaphore among the exchange's three, if it is one of them. -/
def xidx (s : SemLoc sig) : Option (Fin 3) :=
  if s = xsem 0 then some 0 else if s = xsem 1 then some 1 else if s = xsem 2 then some 2 else none
theorem xidx_xsem : ∀ k, xidx (xsem k) = some k := by decide

/-- How much each payment is: one unit for the barrier, the block's credit for the transfer's two ends. -/
def units : Fin 3 → ℕ := ![1, N, N]
theorem units_pos (k : Fin 3) : 0 < units k := by
  fin_cases k
  · exact Nat.one_pos
  · exact N_pos
  · exact N_pos

/-- One round: each of the exchange's cells is paid once. -/
def rd : Rounds.Schedule (GSem nD τ sig) Unit 𝕄 where
  duties g r := if r = 0 ∧ g.1.2 = .tc ∧ (xidx g.2).isSome then {()} else ∅
  unitless _ := False
  amount g _ _ := (xidx g.2).elim 1 units
  payload g _ _ := (xidx g.2).elim iprop(emp) (handed m g.1.1)
  amount_pos g _ _ _ := by
    cases h : xidx g.2 with
    | none => exact Nat.one_pos
    | some k => exact units_pos k

instance handed_storable (c : Dev nD) (k : Fin 3) : BI.Storable (upEmb : UEmb _ 𝕄) (handed (F := F) m c k) := by
  fin_cases k <;> (simp only [handed]; infer_instance)

instance rd_payload_storable (g : GSem nD τ sig) (r : ℕ) (d : Unit) : BI.Storable (upEmb : UEmb _ 𝕄) ((rd (F := F) m).payload g r d) := by
  show BI.Storable upEmb ((xidx g.2).elim iprop(emp) (handed m g.1.1))
  cases xidx g.2 <;> (simp only [Option.elim]; infer_instance)

variable (c : Dev nD) (k : Fin 3)

theorem duties_at : (rd (F := F) m).duties (xcell (c, k)) 0 = {()} := by
  simp only [rd, xidx_xsem]; exact if_pos ⟨trivial, trivial, rfl⟩
theorem duties_later (g : GSem nD τ sig) : ∀ r, 1 ≤ r → (rd (F := F) m).duties g r = ∅ :=
  fun r hr => by dsimp only [rd]; exact if_neg fun h => by omega
theorem amount_at (u : Unit) : (rd (F := F) m).amount (xcell (c, k)) 0 u = units k := by simp only [rd, xidx_xsem]; rfl
theorem expect_at : (rd (F := F) m).expect (xcell (c, k)) 0 = units k := by
  unfold Schedule.expect Schedule.amountOf; rw [duties_at, Finset.sum_singleton, amount_at]
theorem payload_at (u : Unit) : (rd (F := F) m).payload (xcell (c, k)) 0 u = handed m c k := by simp only [rd, xidx_xsem]; rfl
/-- All that is handed over at a cell whose round nothing was taken from. -/
theorem rest_at : bigSep ((rd (F := F) m).duties (xcell (c, k)) 0 \ ∅) (fun u => (rd (F := F) m).payload (xcell (c, k)) 0 u) = handed m c k := by
  rw [Finset.sdiff_empty, duties_at, bigSep_singleton, payload_at]

/-! ## Debts and levels -/

/-- What device `c` owes before its signal: a unit to the mate's barrier cell and the block's credit to its receive cell. -/
def O₀ : CellTallies nD τ sig Unit := tallyAt (recvC (mate c)) () N + tallyAt (barC (mate c)) () 1
/-- What it owes between its signal and its transfer. -/
def O₁ : CellTallies nD τ sig Unit := tallyAt (recvC (mate c)) () N

/-- Every semaphore of a TensorCore has its one index assigned a level. -/
def L (g : GSem nD τ sig) : Finset Unit := if g.1.2 = .tc then {()} else ∅
/-- The barrier at level 1, the receive semaphore at 2, all others at 0. -/
def lv (g : GSem nD τ sig) (_ : Unit) : ℕ := if g.2 = xsem 0 then 1 else if g.2 = xsem 2 then 2 else 0

theorem lv_bar (c : Dev nD) (u : Unit) : lv (barC c) u = 1 := if_pos rfl
theorem lv_recv (c : Dev nD) (u : Unit) : lv (recvC c) u = 2 := by
  unfold lv
  rw [if_neg (show (recvC c).2 ≠ xsem 0 from by show xsem 2 ≠ xsem 0; decide), if_pos rfl]

theorem L_of_ne (g : GSem nD τ sig) (h : g.1.2 ≠ .tc) : L g = ∅ := if_neg h
theorem mem_L (c : Dev nD) (s : SemLoc sig) : () ∈ L ((c : Thread nD τ), s) := by
  rw [L, if_pos rfl]; exact Finset.mem_singleton_self _

/-- Whatever is owed at any time is owed to a cell of the mate at level at least 1; after the signal, at level 2. -/
theorem owed_cell {g : GSem nD τ sig} {u : Unit} :
    (0 < O₀ c g u → g = recvC (mate c) ∨ g = barC (mate c)) ∧ (0 < O₁ c g u → g = recvC (mate c)) := by
  unfold O₀ O₁
  simp only [Pi.add_apply, Finsupp.add_apply, tallyAt_apply]
  constructor <;> intro h <;> by_contra hn
  · rw [not_or] at hn
    rw [if_neg fun e => hn.1 e.1, if_neg fun e => hn.2 e.1] at h
    exact absurd h (lt_irrefl 0)
  · rw [if_neg fun e => hn e.1] at h
    exact absurd h (lt_irrefl 0)

omit [FloatOps F] in
/-- A wait on a semaphore below the cells its device owes is allowed: on a semaphore at level 0 at all times, on the
    barrier after the signal. -/
theorem mayWait (s : SemLoc sig) (hs : s ≠ xsem 2) (O : CellTallies nD τ sig Unit) (hO : O = O₀ c ∧ s ≠ xsem 0 ∨ O = O₁ c ∨ O = 0) :
    (levAts L lv : sProp 𝕄) ⊢ MayWait (c : Thread nD τ) s () O := by
  have low : lv ((c : Thread nD τ), s) () ≤ if s = xsem 0 then 1 else 0 := by
    unfold lv; rw [if_neg hs]
  have tc (g : GSem nD τ sig) (k : Fin 3) (h : g = xcell (mate c, k)) (u : Unit) : u ∈ L g := by rw [h]; exact mem_L _ _
  rcases hO with ⟨rfl, h0⟩ | rfl | rfl
  · rw [if_neg h0] at low
    refine MayOwe.of_cut (L := L) (lev := lv) 0 (fun p hp => by rw [Finset.mem_singleton.mp hp]; exact mem_L _ _)
      (fun g u hg => ?_) (fun p hp => by rw [Finset.mem_singleton.mp hp]; exact low) (fun g u hg => ?_)
    · rcases (owed_cell c).1 hg with h | h
      · exact tc g 2 h u
      · exact tc g 0 h u
    · rcases (owed_cell c).1 hg with h | h <;> subst h
      · rw [lv_recv]; exact Nat.two_pos
      · rw [lv_bar]; exact Nat.one_pos
  · refine MayOwe.of_cut (L := L) (lev := lv) 1 (fun p hp => by rw [Finset.mem_singleton.mp hp]; exact mem_L _ _)
      (fun g u hg => tc g 2 ((owed_cell c).2 hg) u)
      (fun p hp => by rw [Finset.mem_singleton.mp hp]; exact low.trans (by split <;> decide)) (fun g u hg => ?_)
    have h := (owed_cell c).2 hg
    subst h; rw [lv_recv]; exact Nat.one_lt_two
  · rw [MayWait_zero]; iintro -; iempintro

end Cert.Pair

end
-- ==== Proof.Chain.lean ====
/-
The kernel's arithmetic, as it is cut into the values one stretch of the program hands to the next, against the two
running sums: each such value is the sum of exponentials or the label's logit after some number of chunks, or a chunk's
logits on their own.
-/
module

public import proofs.«01_k».proof.Proof.Contents

@[expose] public section

noncomputable section

namespace Cert.Pair

open Cert.KernelIdeal Cert.KernelIdeal.Gen
open Idealize.ShloMosaic

variable {F : FTy → Type} [FloatOps F]
variable (x : Vec F S512x1024 .f32) (lab : Vec F S512x1 .i32) (w : ℕ → Vec F S1024x512 .f32) (z : BitVec 32)

/-- A chunk's logits, wherever they are handed on. -/
theorem logits_2 : k0_pay10 (k0_pay2 x) (w 2) = logits x (w 2) := rfl
theorem logits_5 : k0_pay17 (k0_pay2 x) (w 5) = logits x (w 5) := rfl
theorem logits_7 : k0_pay23 (k0_pay2 x) (w 7) = logits x (w 7) := rfl
theorem exp_7 : k0_pay24 (k0_pay2 x) (w 7) = exp (logits x (w 7)) := rfl
theorem logits_10 : k0_pay30 (k0_pay2 x) (w 10) = logits x (w 10) := rfl
theorem logits_15 : k0_pay42 (k0_pay2 x) (w 15) = logits x (w 15) := rfl

/-- The sum of exponentials after one, three, four, … chunks. -/
theorem expSum_1 : k0_pay6 x (w 0) = expSum x w 1 := rfl
theorem expSum_3 : k0_pay11 (k0_pay2 x) (expSum x w 1) (w 1) (w 2) = expSum x w 3 := rfl
theorem expSum_4 : k0_pay13 (k0_pay2 x) (expSum x w 3) (w 3) = expSum x w 4 := rfl
theorem expSum_6 : k0_pay18 (k0_pay2 x) (expSum x w 4) (w 4) (w 5) = expSum x w 6 := rfl
theorem expSum_7 : k0_pay21 (k0_pay2 x) (expSum x w 6) (w 6) = expSum x w 7 := rfl
theorem expSum_9 : k0_pay26 (k0_pay2 x) (expSum x w 7) (exp (logits x (w 7))) (w 8) = expSum x w 9 := rfl
theorem expSum_11 : k0_pay31 (k0_pay2 x) (expSum x w 9) (w 9) (w 10) = expSum x w 11 := rfl
theorem expSum_12 : k0_pay33 (k0_pay2 x) (expSum x w 11) (w 11) = expSum x w 12 := rfl
theorem expSum_14 : k0_pay38 (k0_pay2 x) (expSum x w 12) (w 12) (w 13) = expSum x w 14 := rfl
theorem expSum_16 : k0_pay43 (k0_pay2 x) (expSum x w 14) (w 14) (w 15) = expSum x w 16 := rfl

/-- The label's logit after two, four, … chunks. -/
theorem labSum_2 : k0_pay9 z (k0_pay2 x) (k0_pay3 lab) k0_pay4 (k0_pay7 z x lab (w 0)) (w 1) = labSum x lab w z 2 := rfl
theorem labSum_4 : k0_pay14 z (k0_pay2 x) (k0_pay3 lab) (labSum x lab w z 2) (logits x (w 2)) (iota .tc S512x512 32 [1] iota_S512x512_d1_w32) (w 3)
    = labSum x lab w z 4 := rfl
theorem labSum_5 : k0_pay16 z (k0_pay2 x) (k0_pay3 lab) (labSum x lab w z 4) (w 4) = labSum x lab w z 5 := rfl
theorem isLabel_5 : k0_pay19 z (k0_pay3 (F := F) lab) = isLabel (F := F) (chunkOff z 5) lab := rfl
theorem labSum_7 : k0_pay22 z (k0_pay2 x) (k0_pay3 lab) (labSum x lab w z 5) (logits x (w 5)) (isLabel (chunkOff z 5) lab)
    (Scalar.ofBits .f32 0x00000000#32) (w 6) = labSum x lab w z 7 := rfl
theorem labSum_9 : k0_pay27 z (k0_pay2 x) (k0_pay3 lab) (labSum x lab w z 7) (logits x (w 7)) (w 8) = labSum x lab w z 9 := rfl
theorem labSum_10 : k0_pay29 z (k0_pay2 x) (k0_pay3 lab) (labSum x lab w z 9) (w 9) = labSum x lab w z 10 := rfl
theorem labSum_12 : k0_pay34 z (k0_pay2 x) (k0_pay3 lab) (labSum x lab w z 10) (logits x (w 10)) (iota .tc S512x512 32 [1] iota_S512x512_d1_w32)
    (Scalar.addi 5120#32 (Scalar.muli z 8192#32)) (w 11) = labSum x lab w z 12 := rfl
theorem labSum_13 : k0_pay36 z (k0_pay2 x) (k0_pay3 lab) (labSum x lab w z 12) (w 12) = labSum x lab w z 13 := rfl
theorem labSum_15 : k0_pay41 z (k0_pay2 x) (k0_pay3 lab) (labSum x lab w z 13) (k0_pay39 z (k0_pay2 x) (k0_pay3 lab) (w 13)) (w 14)
    = labSum x lab w z 15 := rfl

/-- What is stored to be sent: both sums after all 16 chunks. -/
theorem sums_stored : k0_pay44 z (k0_pay3 lab) (labSum x lab w z 15) (logits x (w 15)) (expSum x w 16) = sums x lab w z := rfl

/-- The chain as the program builds it, each stretch's values from the ones before: the two sums. -/
theorem chain_sums :
    k0_pay44 z (k0_pay3 lab)
      (k0_pay41 z (k0_pay2 x) (k0_pay3 lab)
        (k0_pay36 z (k0_pay2 x) (k0_pay3 lab)
          (k0_pay34 z (k0_pay2 x) (k0_pay3 lab)
            (k0_pay29 z (k0_pay2 x) (k0_pay3 lab)
              (k0_pay27 z (k0_pay2 x) (k0_pay3 lab)
                (k0_pay22 z (k0_pay2 x) (k0_pay3 lab)
                  (k0_pay16 z (k0_pay2 x) (k0_pay3 lab)
                    (k0_pay14 z (k0_pay2 x) (k0_pay3 lab)
                      (k0_pay9 z (k0_pay2 x) (k0_pay3 lab) k0_pay4 (k0_pay7 z x lab (w 0)) (w 1))
                      (k0_pay10 (k0_pay2 x) (w 2)) (iota .tc S512x512 32 [1] iota_S512x512_d1_w32) (w 3))
                    (w 4))
                  (k0_pay17 (k0_pay2 x) (w 5)) (k0_pay19 z (k0_pay3 (F := F) lab)) (Scalar.ofBits .f32 0x00000000#32) (w 6))
                (k0_pay23 (k0_pay2 x) (w 7)) (w 8))
              (w 9))
            (k0_pay30 (k0_pay2 x) (w 10)) (iota .tc S512x512 32 [1] iota_S512x512_d1_w32) (Scalar.addi 5120#32 (Scalar.muli z 8192#32)) (w 11))
          (w 12))
        (k0_pay39 z (k0_pay2 x) (k0_pay3 lab) (w 13)) (w 14))
      (k0_pay42 (k0_pay2 x) (w 15))
      (k0_pay43 (k0_pay2 x)
        (k0_pay38 (k0_pay2 x)
          (k0_pay33 (k0_pay2 x)
            (k0_pay31 (k0_pay2 x)
              (k0_pay26 (k0_pay2 x)
                (k0_pay21 (k0_pay2 x)
                  (k0_pay18 (k0_pay2 x)
                    (k0_pay13 (k0_pay2 x)
                      (k0_pay11 (k0_pay2 x) (k0_pay6 x (w 0)) (w 1) (w 2))
                      (w 3))
                    (w 4) (w 5))
                  (w 6))
                (k0_pay24 (k0_pay2 x) (w 7)) (w 8))
              (w 9) (w 10))
            (w 11))
          (w 12) (w 13))
        (w 14) (w 15))
      = sums x lab w z := by
  rw [labSum_2 x lab w z, logits_2, labSum_4, labSum_5, logits_5, isLabel_5, labSum_7, logits_7, labSum_9, labSum_10, logits_10, labSum_12, labSum_13,
    labSum_15, logits_15, expSum_1, expSum_3, expSum_4, expSum_6, expSum_7, exp_7, expSum_9, expSum_11, expSum_12, expSum_14, expSum_16, sums_stored]

end Cert.Pair

end
-- ==== Proof.Body.lean ====
/-
The kernel's body on one device, run effect by effect.
-/
module

public import proofs.«01_k».proof.Proof.Swap
public import proofs.«01_k».proof.Proof.Chain
public import Idealize.ShloMosaic.Lib.Ring
public import Idealize.ShloMosaic.Lib.VecWindow

@[expose] public section

noncomputable section

namespace Cert.Pair

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device brings to the exchange -/

variable (K : Dev nD × Fin 3 → ℕ)

/-- The invariants of the cells a device uses: its own three, and its mate's barrier and receive cells. -/
def invs (c : Dev nD) : sProp 𝕄 :=
  iprop(cellInv EX (rd m) (K (c, 0)) (barC c) ∗ cellInv EX (rd m) (K (c, 1)) (sendC c) ∗ cellInv EX (rd m) (K (c, 2)) (recvC c)
    ∗ cellInv EX (rd m) (K (mate c, 0)) (barC (mate c)) ∗ cellInv EX (rd m) (K (mate c, 2)) (recvC (mate c)))
instance invs_persistent (c : Dev nD) : BI.Persistent (invs m K c) := by unfold invs; infer_instance

/-- The rounds known to have been reached at the cells a device pays. -/
def seen (c : Dev nD) : sProp 𝕄 :=
  iprop(reached EX (barC (mate c)) 0 ∗ reached EX (recvC (mate c)) 0 ∗ reached EX (sendC c) 0 ∗ reached EX (recvC c) 0)
instance seen_persistent (c : Dev nD) : BI.Persistent (seen (F := F) c) := by unfold seen; infer_instance

/-- The duties a device pays: the mate's barrier and receive cells, its own send cell. -/
def dues (c : Dev nD) : sProp 𝕄 :=
  iprop(dutyTok EX (barC (mate c)) 0 () ∗ dutyTok EX (recvC (mate c)) 0 () ∗ dutyTok EX (sendC c) 0 ())

/-- Where a device stands at its own three cells: at the first round, nothing taken. -/
def stands (c : Dev nD) : sProp 𝕄 :=
  iprop(atPos EX (barC c) 0 ∅ 0 ∗ atPos EX (sendC c) 0 ∅ 0 ∗ atPos EX (recvC c) 0 ∅ 0)

def ghost (c : Dev nD) : sProp 𝕄 := iprop(invs m K c ∗ seen c ∗ stands c ∗ dues c)

/-! ## The local copies -/

/-- A whole buffer held at given contents. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-- The semaphores of the 16 local copies at zero. -/
def copySems (c : Dev nD) : sProp 𝕄 :=
  iprop(semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0)

/-! ## The chunks of the weight -/

theorem chunk_disjoint (i j : Fin 16) (h : i ≠ j) : Disjoint (Rect.unit (s := S1024x8192) ![0, 512 * i.val] S1024x512.size (chunk_inb i)).set
    (Rect.unit (s := S1024x8192) ![0, 512 * j.val] S1024x512.size (chunk_inb j)).set :=
  Ring.lead_disjoint (s := S1024x8192) 1 512 (fun j : Fin 16 => ![0, 512 * j.val]) S1024x512.size chunk_inb (fun _ => rfl) rfl i j h
theorem chunk_cover : Finset.univ.biUnion (fun j : Fin 16 => (Rect.unit (s := S1024x8192) ![0, 512 * j.val] S1024x512.size (chunk_inb j)).set) = Finset.univ :=
  Ring.lead_cover (s := S1024x8192) 1 512 (fun j : Fin 16 => ![0, 512 * j.val]) S1024x512.size chunk_inb (fun _ => rfl)
    (fun j a ha => match a with | 0 => rfl | 1 => absurd rfl ha) rfl (fun a ha => match a with | 0 => rfl | 1 => absurd rfl ha) rfl

/-- That columns `k` to `k + 511` are among the 8192. -/
abbrev Inb (k : ℕ) : Prop := ∀ a, (![0, k] : Fin 2 → ℕ) a + S1024x512.size a ≤ S1024x8192.size a

/-- Columns `k` to `k + 511` of a buffer of the weight's shape. -/
abbrev cols {sp : Space} (M : Memref sig .tc sp S1024x8192 .f32) (k : ℕ) (h : Inb k) : Memref sig .tc sp S1024x512 .f32 :=
  M.slice (Rect.unit ![0, k] S1024x512.size h) (fun _ => rfl)
abbrev hbmW : Memref sig .tc .hbm S1024x8192 .f32 := Memref.whole main_arg1
abbrev vmemW : Memref sig .tc .vmem S1024x8192 .f32 := Memref.whole cc0_scratch0

/-- A conjunction over the 16 chunks, by their first columns, written out. -/
abbrev each (Φ : (k : ℕ) → Inb k → sProp 𝕄) : sProp 𝕄 :=
  iprop(Φ 0 inb_S1024x8192_S1024x512_0_0 ∗ Φ 512 inb_S1024x8192_S1024x512_0_512 ∗ Φ 1024 inb_S1024x8192_S1024x512_0_1024 ∗ Φ 1536 inb_S1024x8192_S1024x512_0_1536
    ∗ Φ 2048 inb_S1024x8192_S1024x512_0_2048 ∗ Φ 2560 inb_S1024x8192_S1024x512_0_2560 ∗ Φ 3072 inb_S1024x8192_S1024x512_0_3072 ∗ Φ 3584 inb_S1024x8192_S1024x512_0_3584
    ∗ Φ 4096 inb_S1024x8192_S1024x512_0_4096 ∗ Φ 4608 inb_S1024x8192_S1024x512_0_4608 ∗ Φ 5120 inb_S1024x8192_S1024x512_0_5120 ∗ Φ 5632 inb_S1024x8192_S1024x512_0_5632
    ∗ Φ 6144 inb_S1024x8192_S1024x512_0_6144 ∗ Φ 6656 inb_S1024x8192_S1024x512_0_6656 ∗ Φ 7168 inb_S1024x8192_S1024x512_0_7168 ∗ Φ 7680 inb_S1024x8192_S1024x512_0_7680)
omit [FloatOps F] in
theorem each_eq (Φ : (k : ℕ) → Inb k → sProp 𝕄) : bigSep Finset.univ (fun j : Fin 16 => Φ (512 * j.val) (chunk_inb j)) = each Φ :=
  bigSep_univ_eq_bigSepL [0, 1, 2, 3, 4, 5, 6, 7, 8, 9, 10, 11, 12, 13, 14, 15] (by decide) (by decide) _

/-- Columns `k` to `k + 511` held at `f`. -/
abbrev heldCols (c : Dev nD) {sp : Space} (M : Memref sig .tc sp S1024x8192 .f32) (k : ℕ) (h : Inb k) (f : Buf (Elt F) (M.view.loc (c : Thread nD τ))) : sProp 𝕄 :=
  (cols M k h).view.loc (c : Thread nD τ) ↦[(cols M k h).view.set]{fullShare} f

theorem cols_disjoint {sp : Space} (M : Memref sig .tc sp S1024x8192 .f32) (i j : Fin 16) (h : i ≠ j) :
    Disjoint (cols M (512 * i.val) (chunk_inb i)).view.set (cols M (512 * j.val) (chunk_inb j)).view.set := by
  rw [show (cols M (512 * i.val) (chunk_inb i)).view.set = _ from View.set_slice M.view _,
    show (cols M (512 * j.val) (chunk_inb j)).view.set = _ from View.set_slice M.view _, Finset.disjoint_map]
  exact chunk_disjoint i j h
theorem cols_cover {sp : Space} (M : Memref sig .tc sp S1024x8192 .f32) (hM : M.view.set = Finset.univ) :
    Finset.univ.biUnion (fun j : Fin 16 => (show Finset M.view.ty.Idx from (cols M (512 * j.val) (chunk_inb j)).view.set)) = Finset.univ := by
  rw [← hM]
  ext p
  rw [Finset.mem_biUnion]
  constructor
  · rintro ⟨j, -, hp⟩
    exact View.set_slice_subset M.view _ hp
  · intro hp
    obtain ⟨x, -, rfl⟩ := Finset.mem_map.mp hp
    obtain ⟨j, hj, hx⟩ := Finset.mem_biUnion.mp (chunk_cover ▸ Finset.mem_univ x)
    exact ⟨j, hj, by
      rw [show (cols M (512 * j.val) (chunk_inb j)).view.set = _ from View.set_slice M.view _]
      exact Finset.mem_map_of_mem _ hx⟩

omit [FloatOps F] in
/-- A buffer of the weight's shape is held chunk by chunk, -/
theorem cols_split (c : Dev nD) {sp : Space} (M : Memref sig .tc sp S1024x8192 .f32) (hM : M.view.set = Finset.univ) (f) :
    (held c M f : sProp 𝕄) = each fun k h => heldCols c M k h f := by
  rw [← each_eq]
  exact Ring.pointsTo_blocks (ℓ := M.view.loc (c : Thread nD τ)) (fun j : Fin 16 => (cols M (512 * j.val) (chunk_inb j)).view.set)
    (cols_disjoint M) (cols_cover M hM) f

omit [FloatOps F] in
/-- and chunks at contents of their own make the whole at some contents. -/
theorem cols_join (c : Dev nD) {sp : Space} (M : Memref sig .tc sp S1024x8192 .f32) (hM : M.view.set = Finset.univ) (f₀ : Buf (Elt F) (M.view.loc (c : Thread nD τ))) :
    (each fun k h => iprop(∃ f, heldCols c M k h f)) ⊢ (iprop(∃ f, held c M f) : sProp 𝕄) := by
  rw [← each_eq]
  exact Ring.pointsTo_blocks_join_exists (ℓ := M.view.loc (c : Thread nD τ)) (fun j : Fin 16 => (cols M (512 * j.val) (chunk_inb j)).view.set)
    (cols_disjoint M) (cols_cover M hM) f₀

/-! ## What the loads read -/

/-- A load of 512 columns of the copy buffer reads what a copy into those columns brought. -/
theorem load_cols {Val : EltTy → Type} [∀ e, Nonempty (Val e)] (k : ℕ) (h : Inb k) (w : S1024x512.Idx → Val .f32) :
    vmemW.view.readAt Val (Rect.unit (s := S1024x8192) ![0, k] S1024x512.size h).toLoadRect
      ((cols vmemW k h).view.writes Val (cols vmemW k h).view.junk [⟨Rect.whole S1024x512, w⟩]) = w :=
  View.read_writes_whole (cols vmemW k h).view _ w

/-- So after the copy of a chunk of the weight it reads that chunk. -/
theorem load_chunk (c : Dev nD) (j : Fin 16) :
    vmemW.view.readAt (Elt F) (Rect.unit (s := S1024x8192) ![0, 512 * j.val] S1024x512.size (chunk_inb j)).toLoadRect
      ((cols vmemW (512 * j.val) (chunk_inb j)).view.writes (Elt F) (cols vmemW (512 * j.val) (chunk_inb j)).view.junk
        [⟨Rect.whole S1024x512, ReadAs.same.apply ((cols hbmW (512 * j.val) (chunk_inb j)).view.read (Elt F) (wOf m c))⟩]) = chunkOf (wOf m c) j := by
  refine (load_cols _ _ _).trans ?_
  have e : j = (⟨j.val % 16, Nat.mod_lt _ (by decide)⟩ : Fin 16) := Fin.ext (Nat.mod_eq_of_lt j.isLt).symm
  funext i
  exact congrArg (fun j' : Fin 16 => wOf m c ((Rect.unit (s := S1024x8192) ![0, 512 * j'.val] S1024x512.size (chunk_inb j')).emb i)) e

/-- What stands in a buffer after a store of all of it. -/
theorem stored_whole {Val : EltTy → Type} (b : Ref sig .tc) (f : b.ty.Contents Val) {off : Fin b.ty.shape.rank → ℕ} (inb : ∀ a, off a + b.ty.shape.size a ≤ b.ty.shape.size a)
    (w : b.ty.shape.Idx → Val b.ty.elt) :
    (Memref.whole b : Memref sig .tc _ _ _).view.writes Val f [⟨Rect.unit off b.ty.shape.size inb, w⟩] = w :=
  View.read_writes_full (Memref.whole b : Memref sig .tc _ _ _).view f inb w []

/-- A load of a whole buffer reads what it holds. -/
theorem read_whole {Val : EltTy → Type} (b : Ref sig .tc) (f : b.ty.Contents Val) {off : Fin b.ty.shape.rank → ℕ} (inb : ∀ a, off a + b.ty.shape.size a ≤ b.ty.shape.size a) :
    View.readAt Val (View.whole b) (Rect.unit off b.ty.shape.size inb).toLoadRect f = f :=
  View.readAt_full (View.whole b) f inb

abbrev 𝒱₀ : Variants := Variants.none

/-! ## The effects of the exchange -/

/-- The signal to the mate's barrier cell hands the mate this device's landing buffer. -/
theorem wp_signal_mate (c n : Dev nD) (hn : n = mate c) {α : Type} {Q : α → sProp 𝕄} {k : PUnit → Prog (TpuEff nD τ sig (Elt F) Λ₀ .tc) α} (W : Waits sig Unit) :
    iprop(cellInv EX (rd m) (K (mate c, 0)) (barC (mate c)) ∗ owes (c : Thread nD τ) (O₀ c) W ∗ dutyTok EX (barC (mate c)) 0 ()
        ∗ (∃ f, peerPts c f) ∗ reached EX (recvC c) 0 ∗ reached EX (barC (mate c)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn
  iintro ⟨#HI, HO, Ht, Hp, #Hr, #Hb⟩
  iapply (Rounds.wp_signal 𝒱₀ EX (rd m) (c : Thread nD τ) none (dst := (mate c : Thread nD τ)) (κ := K (mate c, 0)) (d := ())
      (by rw [duties_at m (mate c) 0]; exact Finset.mem_singleton_self _) ((amount_at m (mate c) 0 ()).trans (by decide)) () (O₁ c) rfl)
  isplitr; · iexact HI
  isplitl [HO]; · iexact HO
  isplitl [Ht]; · iexact Ht
  isplitl [Hp]
  · rw [payload_at m (mate c) 0]; unfold handed; rw [mate_mate]
    isplitl [Hp]; · iexact Hp
    iexact Hr
  · iexact Hb

/-- The transfer of the sums into the mate's landing buffer: its send end hands them back, its receive end hands the mate
    its landing buffer, now holding them. -/
theorem wp_send_mate (c n : Dev nD) (hn : n = mate c) {hsc : peerM.view.ref.isScScratch = false}
    {hsrc : accM.view.WordExact} {hdst : peerM.view.WordExact} {hsem : DmaTarget.Typed .vmem (.dma recvS) (.remote (Dev.tc n : Thread nD τ) peerM (.dma sendS) hsc)}
    {α : Type} {Q : α → sProp 𝕄} {k : PUnit → Prog (TpuEff nD τ sig (Elt F) Λ₀ .tc) α}
    (fn : Buf (Elt F) (peerM.view.loc (mate c : Thread nD τ))) (W : Waits sig Unit) :
    iprop(cellInv EX (rd m) (K (c, 1)) (sendC c) ∗ cellInv EX (rd m) (K (mate c, 2)) (recvC (mate c))
        ∗ accPts c (sumsOf m c) ∗ peerPts (mate c) fn ∗ owes (c : Thread nD τ) (O₁ c) W
        ∗ dutyTok EX (sendC c) 0 () ∗ reached EX (sendC c) 0 ∗ dutyTok EX (recvC (mate c)) 0 () ∗ reached EX (recvC (mate c)) 0)
      ⊢ iprop(((cred (tallyAt (sendC c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc n : Thread nD τ) peerM (.dma sendS) hsc) (.dma recvS) hsrc hdst hsem) k) Q) := by
  subst hn
  unfold accPts peerPts
  exact Rounds.wp_send_pointsTo 𝒱₀ EX (rd m) (c : Thread nD τ) none (κ₁ := K (c, 1)) (κ₂ := K (mate c, 2))
    (r₁ := 0) (r₂ := 0) (d₁ := ()) (d₂ := ()) (fd := fn)
    (by rw [duties_at m c 1]; exact Finset.mem_singleton_self _) (by rw [duties_at m (mate c) 2]; exact Finset.mem_singleton_self _)
    () () N rfl (amount_at m c 1 ()) (amount_at m (mate c) 2 ()) 0 (by rw [zero_add]; rfl) (W := W)
    (by rw [payload_at m c 1]; unfold handed accPts; exact BI.Entails.refl _)
    (by
      rw [payload_at m (mate c) 2]; unfold handed peerPts; rw [mate_mate]
      exact Entails.of_eq (congrArg (fun f => (peerM.view.loc (mate c : Thread nD τ) ↦[peerM.view.set]{fullShare} f : sProp 𝕄))
        (View.write_whole_univ _ _ _)))

/-- All a cell's round hands over. -/
theorem pays_at (c : Dev nD) (k : Fin 3) :
    bigSep ((rd (F := F) m).duties (xcell (c, k)) 0) (fun u => (rd (F := F) m).payload (xcell (c, k)) 0 u) = handed m c k := by
  rw [duties_at, bigSep_singleton, payload_at]

/-- What a device holds when its body is over: the buffers it worked in, its semaphores at zero, its arguments as they
    were, its result. It owes nothing more. -/
def done (c : Dev nD) : sProp 𝕄 :=
  iprop((∃ f, held c vmemW f) ∗ accPts c (sumsOf m c) ∗ peerPts c (sumsOf m (mate c)) ∗ copySems c
    ∗ (semVal (barC c) 0 ∗ semVal (sendC c) 0 ∗ semVal (recvC c) 0)
    ∗ held c (Memref.whole main_arg1) (wOf m c) ∗ held c (Memref.whole cc0_stg0_0) (xOf m c) ∗ held c (Memref.whole cc0_stg1_0) (labOf m c)
    ∗ held c (Memref.whole cc0_stg2_0) (outAt m c) ∗ ∃ W, owes (c : Thread nD τ) 0 W)

set_option maxHeartbeats 0 in
/-- The body on one device, from what it is launched with to `done`. -/
theorem body_run (c : Dev nD) (W : Waits sig Unit) (d : Buf (Elt F) ((c : Thread nD τ).loc cc0_stg2_0)) (Kt : PUnit → sProp 𝕄) :
    iprop(ghost m K c ∗ cred (tallyAt (barC c) () 1) ∗ cred (tallyAt (recvC c) () N) ∗ levAts L lv
        ∗ (∃ f, held c (Memref.whole cc0_scratch0) f) ∗ (∃ f, held c (Memref.whole cc0_scratch1) f) ∗ (∃ f, peerPts c f) ∗ copySems c
        ∗ held c (Memref.whole main_arg1) (wOf m c) ∗ held c (Memref.whole cc0_stg0_0) (xOf m c) ∗ held c (Memref.whole cc0_stg1_0) (labOf m c) ∗ held c (Memref.whole cc0_stg2_0) d
        ∗ owes (c : Thread nD τ) (O₀ c) W
        ∗ (done m c -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _)
            (Memref.whole cc0_stg1_0) (Memref.isWhole_whole _) (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  simp only [cc0_body_eq_skeleton]; unfold cc0_body_skel
  sl_open_parts
  simp only [semSignalWord, semWaitWord]
  unfold ghost invs seen stands dues copySems
  iintro ⟨⟨⟨#HIb, #HIs, #HIr, #HImb, #HImr⟩, ⟨#Hrmb, #Hrmr, #Hrs, #Hrr⟩, ⟨Hab, Has, Har⟩, Htb, Htr, Hts⟩, Hcb, Hcr, #Hlev, ⟨%f0, Hw⟩, ⟨%f1, Hacc⟩, ⟨%f2, Hpeer⟩,
    ⟨Hs0, Hs1, Hs2, Hs3, Hs4, Hs5, Hs6, Hs7, Hs8, Hs9, Hs10, Hs11, Hs12, Hs13, Hs14, Hs15⟩, HW, Hx, Hlab, Hout, HO, Hk⟩
  have hmw : ∀ s, s ≠ xsem 2 → (levAts L lv : sProp 𝕄) ⊢ MayWait (c : Thread nD τ) s () (O₁ c) := fun s hs => mayWait c s hs _ (.inr (.inl rfl))
  ihave Hw := (Entails.of_eq (cols_split c vmemW (View.set_whole _) f0)) $$ Hw
  ihave HW := (Entails.of_eq (cols_split c hbmW (View.set_whole _) (wOf m c))) $$ HW
  icases Hw with ⟨Hw0, Hw1, Hw2, Hw3, Hw4, Hw5, Hw6, Hw7, Hw8, Hw9, Hw10, Hw11, Hw12, Hw13, Hw14, Hw15⟩
  icases HW with ⟨HW0, HW1, HW2, HW3, HW4, HW5, HW6, HW7, HW8, HW9, HW10, HW11, HW12, HW13, HW14, HW15⟩
  sl_exec!
  iapply (wp_signal_mate m K c _ (signal_dev c) _) $$ [HO Htb Hpeer]
  · isplitr; · iexact HImb
    isplitl [HO]; · iexact HO
    isplitl [Htb]; · iexact Htb
    isplitl [Hpeer]; · iexists f2; iexact Hpeer
    isplitr; · iexact Hrr
    iexact Hrmb
  iintro HO
  sl_exec!
  have hacc : (Memref.whole cc0_scratch1).view.writes (Elt F) (Memref.whole cc0_scratch1).view.junk (body_run.sl.Hacc_1 m c) = sumsOf m c := by
    unfold body_run.sl.Hacc_1
    refine (stored_whole cc0_scratch1 _ _ _).trans ?_
    dsimp only
    have hx : View.readAt (Elt F) (View.whole cc0_stg0_0) (Rect.unit ![0, 0] ![512, 1024] inb_S512x1024_S512x1024_0_0).toLoadRect (m ((c : Thread nD τ).loc main_arg0))
        = xOf m c := read_whole cc0_stg0_0 _ _
    have hl : View.readAt (Elt F) (View.whole cc0_stg1_0) (Rect.unit ![0, 0] ![512, 1] inb_S512x1_S512x1_0_0).toLoadRect (m ((c : Thread nD τ).loc main_arg2))
        = labOf m c := read_whole cc0_stg1_0 _ _
    rw [show Scalar.remsi (Scalar.divsi (Dev.word c) 1#32) 2#32 = zOf c from rfl, hx, hl,
      show body_run.sl.v92 m c = chunkOf (wOf m c) 0 from load_chunk m c 0, show body_run.sl.v115 m c = chunkOf (wOf m c) 1 from load_chunk m c 1,
      show body_run.sl.v138 m c = chunkOf (wOf m c) 2 from load_chunk m c 2, show body_run.sl.v161 m c = chunkOf (wOf m c) 3 from load_chunk m c 3,
      show body_run.sl.v184 m c = chunkOf (wOf m c) 4 from load_chunk m c 4, show body_run.sl.v207 m c = chunkOf (wOf m c) 5 from load_chunk m c 5,
      show body_run.sl.v230 m c = chunkOf (wOf m c) 6 from load_chunk m c 6, show body_run.sl.v253 m c = chunkOf (wOf m c) 7 from load_chunk m c 7,
      show body_run.sl.v276 m c = chunkOf (wOf m c) 8 from load_chunk m c 8, show body_run.sl.v299 m c = chunkOf (wOf m c) 9 from load_chunk m c 9,
      show body_run.sl.v322 m c = chunkOf (wOf m c) 10 from load_chunk m c 10, show body_run.sl.v345 m c = chunkOf (wOf m c) 11 from load_chunk m c 11,
      show body_run.sl.v368 m c = chunkOf (wOf m c) 12 from load_chunk m c 12, show body_run.sl.v391 m c = chunkOf (wOf m c) 13 from load_chunk m c 13,
      show body_run.sl.v414 m c = chunkOf (wOf m c) 14 from load_chunk m c 14, show body_run.sl.v437 m c = chunkOf (wOf m c) 15 from load_chunk m c 15]
    exact chain_sums (xOf m c) (labOf m c) (chunkOf (wOf m c)) (zOf c)
  rw [hacc]
  ihave Hacc := (Entails.of_eq (accPts_eq c (sumsOf m c)).symm) $$ Hacc
  ihave Hp := (Entails.of_eq (pays_at m c 0)) $$ Hab_pay1
  unfold handed
  icases Hp with ⟨⟨%fn, HpeerN⟩, -⟩
  iapply (wp_send_mate m K c _ (send_dev c) fn _) $$ [Hacc HpeerN HO Hts Htr]
  · isplitr; · iexact HIs
    isplitr; · iexact HImr
    isplitl [Hacc]; · iexact Hacc
    isplitl [HpeerN]; · iexact HpeerN
    isplitl [HO]; · iexact HO
    isplitl [Hts]; · iexact Hts
    isplitr; · iexact Hrs
    isplitl [Htr]; · iexact Htr
    iexact Hrmr
  iintro ⟨Hcs, HO⟩
  sl_exec!
  ihave Hacc := (Entails.of_eq ((pays_at m c 1).trans (show handed m c 1 = accPts c (sumsOf m c) from rfl))) $$ Has_pay1
  ihave Hpeer := (Entails.of_eq ((pays_at m c 2).trans (show handed m c 2 = peerPts c (sumsOf m (mate c)) from rfl))) $$ Har_pay1
  unfold accPts peerPts
  imod (Rounds.cell_close EX (rd m) (Set.mem_univ (K (c, 0))) (fun h => h) (R := 0 + 1) (duties_later m (barC c))) $$ [Hab] with Hzb
  · isplitr; · iexact HIb
    iexact Hab
  imod (Rounds.cell_close EX (rd m) (Set.mem_univ (K (c, 1))) (fun h => h) (R := 0 + 1) (duties_later m (sendC c))) $$ [Has] with Hzs
  · isplitr; · iexact HIs
    iexact Has
  imod (Rounds.cell_close EX (rd m) (Set.mem_univ (K (c, 2))) (fun h => h) (R := 0 + 1) (duties_later m (recvC c))) $$ [Har] with Hzr
  · isplitr; · iexact HIr
    iexact Har
  sl_exec!
  have hout : (Memref.whole cc0_stg2_0).view.writes (Elt F) (Memref.whole cc0_stg2_0).view.junk (body_run.sl.Hout_1 m c) = outAt m c := by
    unfold body_run.sl.Hout_1
    refine (stored_whole cc0_stg2_0 _ _ _).trans ?_
    rfl
  rw [hout, wp_ret]; imodintro
  iapply Hk
  unfold done copySems accPts peerPts
  isplitl [Hw0 Hw1 Hw2 Hw3 Hw4 Hw5 Hw6 Hw7 Hw8 Hw9 Hw10 Hw11 Hw12 Hw13 Hw14 Hw15]
  · iapply (cols_join c vmemW (View.set_whole _) f0)
    unfold each
    isplitl [Hw0]; · iexists _; iexact Hw0
    isplitl [Hw1]; · iexists _; iexact Hw1
    isplitl [Hw2]; · iexists _; iexact Hw2
    isplitl [Hw3]; · iexists _; iexact Hw3
    isplitl [Hw4]; · iexists _; iexact Hw4
    isplitl [Hw5]; · iexists _; iexact Hw5
    isplitl [Hw6]; · iexists _; iexact Hw6
    isplitl [Hw7]; · iexists _; iexact Hw7
    isplitl [Hw8]; · iexists _; iexact Hw8
    isplitl [Hw9]; · iexists _; iexact Hw9
    isplitl [Hw10]; · iexists _; iexact Hw10
    isplitl [Hw11]; · iexists _; iexact Hw11
    isplitl [Hw12]; · iexists _; iexact Hw12
    isplitl [Hw13]; · iexists _; iexact Hw13
    isplitl [Hw14]; · iexists _; iexact Hw14
    iexists _; iexact Hw15
  isplitl [Hacc]; · iexact Hacc
  isplitl [Hpeer]; · iexact Hpeer
  isplitl [Hs0 Hs1 Hs2 Hs3 Hs4 Hs5 Hs6 Hs7 Hs8 Hs9 Hs10 Hs11 Hs12 Hs13 Hs14 Hs15]
  · iframe Hs0 Hs1 Hs2 Hs3 Hs4 Hs5 Hs6 Hs7 Hs8 Hs9 Hs10 Hs11 Hs12 Hs13 Hs14 Hs15
  isplitl [Hzb Hzs Hzr]
  · isplitl [Hzb]; · iexact Hzb
    isplitl [Hzs]; · iexact Hzs
    iexact Hzr
  isplitl [HW0 HW1 HW2 HW3 HW4 HW5 HW6 HW7 HW8 HW9 HW10 HW11 HW12 HW13 HW14 HW15]
  · iapply (Entails.of_eq (cols_split c hbmW (View.set_whole _) (wOf m c)).symm)
    unfold each
    iframe HW0 HW1 HW2 HW3 HW4 HW5 HW6 HW7 HW8 HW9 HW10 HW11 HW12 HW13 HW14 HW15
  isplitl [Hx]; · iexact Hx
  isplitl [Hlab]; · iexact Hlab
  isplitl [Hout]; · iexact Hout
  iexists _; iexact HO

end Cert.Pair

end
-- ==== Proof.Launch.lean ====
/-
The run of the whole kernel: the eight devices launched together, the exchange's cells and duties dealt out to them, and
what the arrays hold at the end.
-/
module

public import proofs.«01_k».proof.Proof.Body
public import proofs.«01_k».proof.Proof.Gen.KernelIdeal.Points
public import Idealize.ShloMosaic.Lib.Quiescent
public import Idealize.ShloMosaic.Lib.Pipeline.CollectiveSegs
public import Idealize.ShloMosaic.Lib.Pipeline.ValueKit

@[expose] public section

noncomputable section

namespace Cert.Pair

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one region -/

/-- What the launch deals a device. -/
def dealt (c : Dev nD) : sProp 𝕄 := iprop((∃ K, ghost m K c) ∗ copySems c)

/-- What a device enters the region with, next to the buffers of the region. -/
def entry (c : Dev nD) : sProp 𝕄 :=
  iprop(dealt m c ∗ cred (tallyAt (barC c) () 1) ∗ cred (tallyAt (recvC c) () N) ∗ levAts L lv ∗ held c hbmW (wOf m c))

/-- Before the body: that, and the three scratch buffers at any contents. -/
def before (c : Dev nD) : sProp 𝕄 :=
  iprop(entry m c ∗ (∃ f, held c vmemW f) ∗ (∃ f, held c accM f) ∗ (∃ f, peerPts c f))

/-- After it: the scratch buffers, every semaphore at zero, and the weight unchanged. -/
def after (c : Dev nD) : sProp 𝕄 :=
  iprop((∃ f, held c vmemW f) ∗ accPts c (sumsOf m c) ∗ peerPts c (sumsOf m (mate c)) ∗ copySems c
    ∗ (semVal (barC c) 0 ∗ semVal (sendC c) 0 ∗ semVal (recvC c) 0) ∗ held c hbmW (wOf m c))

/-- The region on device `c`: the two input blocks staged and left as they are, the result's block written. -/
def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => labOf m c
    | ⟨2, _⟩ => outAt m c
  Φ t := match t with
    | ⟨0, _⟩ => before m c
    | ⟨_ + 1, _⟩ => after m c
  q _ := fullShare
  owed t := match t with
    | ⟨0, _⟩ => O₀ c
    | ⟨_ + 1, _⟩ => 0

omit [FloatOps F] in
/-- A whole buffer owned is its points-to. -/
theorem owned_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The block fetched is the whole array. -/
theorem fetched_x (c : Dev nD) (d) : (dats m 0 c).before (0 : Fin 3) t0_0 d = xOf m c := by
  unfold Dat.before; rw [if_pos (fetch0_0 t0_0)]
  funext j
  exact congrArg (xOf m c) (funext fun a => Fin.ext (Pipeline.Window.rect_emb_val_of_index_zero win0_0 t0_0 a (by revert a; decide) _))
theorem fetched_lab (c : Dev nD) (d) : (dats m 0 c).before (1 : Fin 3) t0_0 d = labOf m c := by
  unfold Dat.before; rw [if_pos (fetch0_1 t0_0)]
  funext j
  exact congrArg (labOf m c) (funext fun a => Fin.ext (Pipeline.Window.rect_emb_val_of_index_zero win0_1 t0_0 a (by revert a; decide) _))

/-- All a device holds when the body starts, -/
def pre (c : Dev nD) : sProp 𝕄 :=
  iprop(before m c ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))
/-- and when it ends. -/
def post (c : Dev nD) : sProp 𝕄 :=
  iprop(after m c ∗ (dats m 0 c).owesAt () t0_0.succ
    ∗ staged c cc0_stg0_0 (xOf m c) ∗ staged c cc0_stg1_0 (labOf m c) ∗ staged c cc0_stg2_0 (outAt m c))

set_option maxRecDepth 4000 in
/-- The body takes the one to the other. -/
theorem body_ok (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from bigSep_W0,
    show ∀ Φ : Fin cfg0.W → sProp 𝕄, bigSep Finset.univ Φ = _ from bigSep_W0]
  simp only [owned_whole]
  show pre m c ⊢ wp frame (wpE (defs₀ (F := F)) 𝒱₀ c none) Set.univ
    (cc0_body (Memref.whole cc0_stg0_0) (Memref.isWhole_whole _) (Memref.whole main_arg1) (Memref.isWhole_whole _)
      (Memref.whole cc0_stg1_0) (Memref.isWhole_whole _) (Memref.whole cc0_stg2_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5) (fun _ => post m c)
  unfold pre before entry dealt
  iintro ⟨⟨⟨⟨⟨%K, Hg⟩, Hcs⟩, Hcb, Hcr, Hlev, HW⟩, Hv, Ha, Hp⟩, Ho, ⟨%d0, %g0, %hg0, Hx⟩, ⟨%d1, %g1, %hg1, Hl⟩, ⟨%d2, %g2, %hg2, Hout⟩⟩
  have hx := hg0.trans (fetched_x m c d0)
  have hl := hg1.trans (fetched_lab m c d1)
  subst hx hl
  unfold Dat.owesAt Pipeline.owesWithin
  icases Ho with ⟨%W, %hW, HO⟩
  rw [show (dats m 0 c).owed t0_0.castSucc = O₀ c from rfl]
  iapply (body_run m K c W g2 fun _ => post m c)
  iframe Hg Hcb Hcr Hlev Hv Ha Hp Hcs HW Hx Hl Hout HO
  unfold done post after
  iintro ⟨Hv, Ha, Hp, Hcs, Hz, HW, Hx, Hl, Hout, ⟨%W', HO⟩⟩
  iframe Hv Ha Hp Hcs Hz HW
  unfold Dat.owesAt Pipeline.owesWithin
  rw [show (dats m 0 c).owed t0_0.succ = 0 from rfl]
  isplitl [HO]
  · iexists W'
    isplitr; · ipureintro; exact fun _ _ => Or.inl trivial
    iexact HO
  isplitl [Hx]
  · iexists _; isplitr; · (ipureintro; rfl)
    iexact Hx
  isplitl [Hl]
  · iexists _; isplitr; · (ipureintro; rfl)
    iexact Hl
  iexists _; isplitr; · (ipureintro; rfl)
  iexact Hout

/-! ## The cells and the duties, as minted and as dealt -/

/-- The kernel's own semaphores: those of the 16 copies, then the send and the receive semaphore. -/
abbrev osem (k : Fin 18) : SemLoc sig := .dma (Fin.natAdd 3 k)

theorem osem_ok : Pipeline.OwnSemFacts cfg0.spec osem := by decide

theorem share_full (c : Dev nD) (w : Fin cfg0.W) : (dats m 0 c).share w = fullShare := by unfold Dat.share; split <;> rfl

def cellSet : Finset (GSem nD τ sig) := Finset.univ.map ⟨xcell, xcell_injective⟩

/-- One duty per cell. -/
abbrev dutyOf (ck : Dev nD × Fin 3) : GSem nD τ sig × ℕ × Unit := (xcell ck, 0, ())
theorem dutyOf_injective : Function.Injective dutyOf := fun _ _ h => xcell_injective (congrArg Prod.fst h)
def dutySet : Finset (GSem nD τ sig × ℕ × Unit) := Finset.univ.map ⟨dutyOf, dutyOf_injective⟩

/-- The launch element. -/
def u₀ : UU := (initOf (Pipeline.cells cfgs cellOf_inj) (Pipeline.launchToks cfgs cellOf_inj), (initOf cellSet dutySet, 1))

omit [FloatOps F] in
theorem three (Φ : Fin 3 → sProp 𝕄) : bigSep Finset.univ Φ = iprop(Φ 0 ∗ Φ 1 ∗ Φ 2) := bigSep_univ_eq_bigSepL [0, 1, 2] (by decide) (by decide) Φ

/-- What device `c`'s cells are minted with: the first round's state, -/
def states (c : Dev nD) : sProp 𝕄 := bigSep Finset.univ fun k : Fin 3 => roundState EX (rd m) (xcell (c, k)) 0
/-- their positions and the record of their first round, -/
def positions (c : Dev nD) : sProp 𝕄 := bigSep Finset.univ fun k : Fin 3 => iprop(atPos EX (xcell (c, k)) 0 ∅ 0 ∗ reached EX (xcell (c, k)) 0)
/-- and their duties. -/
def minted (c : Dev nD) : sProp 𝕄 := bigSep Finset.univ fun k : Fin 3 => dutyTok EX (xcell (c, k)) 0 ()

def funds (c : Dev nD) : sProp 𝕄 := iprop(states m c ∗ positions c ∗ minted c)

theorem mint : BI.own (EX (initOf cellSet dutySet)) ⊢ (|==> bigSep Finset.univ (funds m) : sProp 𝕄) := by
  have cells (Φ : GSem nD τ sig → sProp 𝕄) : bigSep cellSet Φ = bigSep Finset.univ fun c : Dev nD => bigSep Finset.univ fun k : Fin 3 => Φ (xcell (c, k)) := by
    unfold cellSet; rw [bigSep_map, bigSep_univ_prod]; rfl
  have duties : bigSep dutySet (fun x => (dutyTok EX x.1 x.2.1 x.2.2 : sProp 𝕄)) = bigSep Finset.univ fun c : Dev nD => minted c := by
    unfold dutySet; rw [bigSep_map, bigSep_univ_prod]; rfl
  iintro H
  imod (Rounds.fund EX (rd m) cellSet dutySet) $$ H with ⟨Hst, Hre, Hat, Hdu⟩
  imodintro
  ihave Hst := (Entails.of_eq (cells fun g => roundState EX (rd m) g 0)) $$ Hst
  ihave Hat := (Entails.of_eq (cells fun g => atPos EX g 0 ∅ 0)) $$ Hat
  ihave Hre := (Entails.of_eq (cells fun g => reached EX g 0)) $$ Hre
  ihave Hdu := (Entails.of_eq duties) $$ Hdu
  unfold funds states positions
  simp only [bigSep_sep']
  iframe Hst Hat Hre Hdu

omit [FloatOps F] in
/-- The kernel's own semaphores at zero are the copies' and the exchange's two. -/
theorem own_sems (c : Dev nD) : (Pipeline.ownSems0 (Ix := Unit) (Name := ℕ) (U := UU) (Lvl := ℕ) (Val := Elt F) (τ := τ) osem c : sProp 𝕄)
    ⊣⊢ iprop(copySems c ∗ semVal (sendC c) 0 ∗ semVal (recvC c) 0) := by
  rw [(Pipeline.ownSems0_eq_of_list c osem [0, 1, 2, 3, 4, 5, 6, 7, 8, 9, 10, 11, 12, 13, 14, 15, 16, 17] (by decide) (by decide)).trans
    (show _ = iprop(semVal ((c : Thread nD τ), SemLoc.dma 3) 0
    ∗ semVal ((c : Thread nD τ), SemLoc.dma 4) 0
    ∗ semVal ((c : Thread nD τ), SemLoc.dma 5) 0
    ∗ semVal ((c : Thread nD τ), SemLoc.dma 6) 0
    ∗ semVal ((c : Thread nD τ), SemLoc.dma 7) 0
    ∗ semVal ((c : Thread nD τ), SemLoc.dma 8) 0
    ∗ semVal ((c : Thread nD τ), SemLoc.dma 9) 0
    ∗ semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0) from rfl)]
  unfold copySems
  constructor
  · iintro ⟨H0, H1, H2, H3, H4, H5, H6, H7, H8, H9, H10, H11, H12, H13, H14, H15, Hs, Hr⟩
    iframe H0 H1 H2 H3 H4 H5 H6 H7 H8 H9 H10 H11 H12 H13 H14 H15
    isplitl [Hs]; · iexact Hs
    iexact Hr
  · iintro ⟨⟨H0, H1, H2, H3, H4, H5, H6, H7, H8, H9, H10, H11, H12, H13, H14, H15⟩, Hs, Hr⟩
    iframe H0 H1 H2 H3 H4 H5 H6 H7 H8 H9 H10 H11 H12 H13 H14 H15
    isplitl [Hs]; · iexact Hs
    iexact Hr

omit [FloatOps F] in
/-- The one unscoped semaphore is the barrier's. -/
theorem unscoped_sems (c : Dev nD) : (unscopedSems0 c : sProp 𝕄) = semVal (barC c) 0 := by
  unfold unscopedSems0; rw [bigSep_eq_bigSepL_of_eq [SemLoc.reg barS] (by decide) (by decide)]; rfl

/-- One device's part of the set-up: its three cells under invariants. -/
theorem set_up (c : Dev nD) :
    iprop(Pipeline.ownSems0 (Ix := Unit) (Name := ℕ) (U := UU) (Lvl := ℕ) (Val := Elt F) (τ := τ) osem c ∗ unscopedSems0 c ∗ funds m c)
      ⊢ |={Set.univ}=> iprop((bigSep Finset.univ fun k => iprop(∃ κ : ℕ, cellInv EX (rd m) κ (xcell (c, k)))) ∗ positions c ∗ minted c ∗ copySems c) := by
  rw [unscoped_sems]
  unfold funds states
  iintro ⟨Hos, Hb, Hst, Hpo, Hmi⟩
  ihave Hos := (own_sems (F := F) c).1 $$ Hos
  icases Hos with ⟨Hcs, Hs, Hr⟩
  imod (show iprop((bigSep Finset.univ fun k : Fin 3 => semVal (xcell (c, k)) 0) ∗ bigSep Finset.univ fun k : Fin 3 => roundState EX (rd m) (xcell (c, k)) 0)
      ⊢ (|={Set.univ}=> bigSep Finset.univ fun k => iprop(∃ κ : ℕ, cellInv EX (rd m) κ (xcell (c, k))) : sProp 𝕄) from by
        rw [← bigSep_sep']
        exact (bigSep_mono fun k _ => (Rounds.body_intro EX (rd m) (xcell (c, k))).trans inv_alloc).trans (bigSep_fupd _ _)) $$ [Hb Hs Hr Hst] with Hinv
  · isplitr [Hst]
    · rw [three]; iframe Hb Hs Hr
    · iexact Hst
  imodintro
  iframe Hinv Hpo Hmi Hcs

/-- What every device may read: all cells' invariants and that all are at their first round. -/
def known (K : Dev nD × Fin 3 → ℕ) : sProp 𝕄 :=
  iprop((bigSep Finset.univ fun ck => cellInv EX (rd m) (K ck) (xcell ck)) ∗ bigSep Finset.univ fun ck => reached EX (xcell ck) 0)
instance known_persistent (K : Dev nD × Fin 3 → ℕ) : BI.Persistent (known m K) := by unfold known; infer_instance

theorem known_inv (K : Dev nD × Fin 3 → ℕ) (ck : Dev nD × Fin 3) : known m K ⊢ cellInv EX (rd m) (K ck) (xcell ck) := by
  unfold known
  iintro ⟨#H, -⟩
  iapply (show (bigSep Finset.univ fun ck => (cellInv EX (rd m) (K ck) (xcell ck) : sProp 𝕄)) ⊢ cellInv EX (rd m) (K ck) (xcell ck) from bigSep_elim (Finset.mem_univ ck)); iexact H
theorem known_reached (K : Dev nD × Fin 3 → ℕ) (ck : Dev nD × Fin 3) : known m K ⊢ reached EX (xcell ck) 0 := by
  unfold known
  iintro ⟨-, #H⟩
  iapply (show (bigSep Finset.univ fun ck => (reached EX (xcell ck) 0 : sProp 𝕄)) ⊢ reached EX (xcell ck) 0 from bigSep_elim (Finset.mem_univ ck)); iexact H

/-- What is one device's alone. -/
def private₀ (c : Dev nD) : sProp 𝕄 := iprop(stands c ∗ dues c ∗ copySems c)

theorem deal (K : Dev nD × Fin 3 → ℕ) (c : Dev nD) : iprop(known m K ∗ private₀ c) ⊢ dealt m c := by
  unfold private₀ dealt ghost invs seen
  iintro ⟨#HK, Hst, Hdu, Hcs⟩
  iframe Hcs
  iexists K
  iframe Hst Hdu
  isplitr
  · isplitr; · iapply (known_inv m K (c, 0)); iexact HK
    isplitr; · iapply (known_inv m K (c, 1)); iexact HK
    isplitr; · iapply (known_inv m K (c, 2)); iexact HK
    isplitr; · iapply (known_inv m K (mate c, 0)); iexact HK
    iapply (known_inv m K (mate c, 2)); iexact HK
  · isplitr; · iapply (known_reached m K (mate c, 0)); iexact HK
    isplitr; · iapply (known_reached m K (mate c, 2)); iexact HK
    isplitr; · iapply (known_reached m K (c, 1)); iexact HK
    iapply (known_reached m K (c, 2)); iexact HK

omit [FloatOps F] in
/-- The duties minted at each device's cells, given to those that pay them: barrier and receive duties to the mates. -/
theorem hand_out : (bigSep Finset.univ fun c : Dev nD => (minted c : sProp 𝕄)) ⊢ bigSep Finset.univ fun c : Dev nD => dues c := by
  unfold minted dues
  simp only [three]
  rw [bigSep_sep', bigSep_sep', bigSep_sep', bigSep_sep',
    bigSep_univ_equiv flip (fun c : Dev nD => (dutyTok EX (barC c) 0 () : sProp 𝕄)),
    bigSep_univ_equiv flip (fun c : Dev nD => (dutyTok EX (recvC c) 0 () : sProp 𝕄))]
  iintro ⟨Hb, Hs, Hr⟩
  isplitl [Hb]; · iexact Hb
  isplitl [Hr]; · iexact Hr
  iexact Hs

/-- What the devices set up, dealt out again. -/
theorem deal_all : (bigSep Finset.univ fun c : Dev nD => iprop((bigSep Finset.univ fun k => iprop(∃ κ : ℕ, cellInv EX (rd m) κ (xcell (c, k)))) ∗ positions c ∗ minted c ∗ copySems c) : sProp 𝕄)
    ⊢ bigSep Finset.univ (dealt m) := by
  unfold positions
  rw [bigSep_sep', bigSep_sep', bigSep_sep', ← bigSep_univ_prod (fun ck : Dev nD × Fin 3 => iprop(∃ κ : ℕ, cellInv EX (rd m) κ (xcell ck))),
    bigSep_congr (s := Finset.univ) (fun (c : Dev nD) _ => bigSep_sep' Finset.univ (fun k : Fin 3 => (atPos EX (xcell (c, k)) 0 ∅ 0 : sProp 𝕄)) (fun k => reached EX (xcell (c, k)) 0)),
    bigSep_sep', ← bigSep_univ_prod (fun ck : Dev nD × Fin 3 => (reached EX (xcell ck) 0 : sProp 𝕄))]
  iintro ⟨HI, ⟨Hat, #HR⟩, Hmi, Hcs⟩
  ihave HK := (BI.bigSep_exists_pi Finset.univ (fun (ck : Dev nD × Fin 3) (κ : ℕ) => (cellInv EX (rd m) κ (xcell ck) : sProp 𝕄))) $$ HI
  icases HK with ⟨%K, #HI⟩
  ihave Hdu := (hand_out (F := F)) $$ Hmi
  have spread : iprop(known m K ∗ bigSep Finset.univ fun c => private₀ c) ⊢ bigSep Finset.univ (dealt m) :=
    (sep_mono_left (BI.bigSep_of_persistent Finset.univ (known m K))).trans (by rw [← bigSep_sep']; exact bigSep_mono fun c _ => deal m K c)
  iapply spread
  isplitr
  · unfold known; isplitr; · iexact HI
    iexact HR
  · unfold private₀
    rw [bigSep_sep' Finset.univ, bigSep_sep' Finset.univ, show (stands : Dev nD → sProp 𝕄) = fun c => bigSep Finset.univ fun k : Fin 3 => atPos EX (xcell (c, k)) 0 ∅ 0 from
      funext fun c => (three fun k : Fin 3 => (atPos EX (xcell (c, k)) 0 ∅ 0 : sProp 𝕄)).symm]
    iframe Hat Hdu Hcs

/-- The set-up of all devices at once. -/
theorem set_up_all : (bigSep Finset.univ fun c => iprop(Pipeline.ownSems0 (Ix := Unit) (Name := ℕ) (U := UU) (Lvl := ℕ) (Val := Elt F) (τ := τ) osem c ∗ unscopedSems0 c ∗ funds m c) : sProp 𝕄)
    ⊢ |={Set.univ}=> bigSep Finset.univ (dealt m) :=
  ((bigSep_mono fun c _ => set_up m c).trans (bigSep_fupd _ _)).trans (BI.fupd_mono (deal_all m))

/-! ## The credits the debts are matched by -/

theorem cell_eq {a b : Dev nD} {s t : SemLoc sig} : Iff ((((a : Thread nD τ), s) : GSem nD τ sig) = ((b : Thread nD τ), t)) (a = b ∧ s = t) :=
  ⟨fun h => ⟨congrArg (fun g : GSem nD τ sig => g.1.1) h, congrArg Prod.snd h⟩, fun h => by rw [h.1, h.2]⟩

/-- Only the mate owes a device anything: one unit at its barrier cell, the block's credit at its receive cell. -/
theorem owed_at (d c : Dev nD) : O₀ d (barC c) () = (if d = mate c then 1 else 0) ∧ O₀ d (recvC c) () = if d = mate c then N else 0 := by
  have swap : Iff (c = mate d) (d = mate c) := ⟨fun h => by rw [h, mate_mate], fun h => by rw [h, mate_mate]⟩
  have ne : ¬ xsem 0 = xsem 2 := xsem_injective.ne (by decide)
  have ne' : ¬ xsem 2 = xsem 0 := xsem_injective.ne (by decide)
  unfold O₀
  simp only [Pi.add_apply, Finsupp.add_apply, tallyAt_apply, cell_eq, swap, ne, ne', and_true, and_false, if_false, zero_add, add_zero]

omit [FloatOps F] in
theorem credits (c : Dev nD) : (Pipeline.launchCred O₀ c : sProp 𝕄) ⊢ iprop(cred (tallyAt (barC c) () 1) ∗ cred (tallyAt (recvC c) () N)) := by
  have sum (k : Fin 3) (n : ℕ) (h : ∀ d, O₀ d (xcell (c, k)) () = if d = mate c then n else 0) :
      tallyOn (xcell (c, k)) (launchCredit (Pipeline.owing O₀) 0 (xcell (c, k))) = (tallyAt (xcell (c, k)) () n : CellTallies nD τ sig Unit) := by
    unfold tallyAt; refine congrArg _ (Finsupp.ext fun u => ?_); cases u
    rw [Pipeline.launchCredit_owing, Finsupp.single_eq_same, Finset.sum_congr rfl fun d _ => h d, Finset.sum_ite_eq' Finset.univ (mate c) fun _ => n,
      if_pos (Finset.mem_univ _)]
  unfold Pipeline.launchCred
  rw [bigSep_univ_at _ (xsem 0), sum 0 1 fun d => (owed_at d c).1, ← sum 2 N fun d => (owed_at d c).2]
  exact sep_mono_right (bigSep_elim (Finset.mem_erase.mpr ⟨xsem_injective.ne (show (2 : Fin 3) ≠ 0 by decide), Finset.mem_univ _⟩))

/-! ## Into the region and out of it -/

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(entry m c ∗ emp) := by
  rw [Pipeline.unscopedRestP_none, unscopedRest0_eq]
  iintro ⟨HW, Hlev, Hcr, -, Hd⟩
  ihave Hc := (credits (F := F) c) $$ Hcr
  icases Hc with ⟨Hcb, Hcr⟩
  imodintro
  unfold entry
  isplitl
  · iframe Hd Hcb Hcr Hlev; iexact HW
  · iempintro

theorem inside (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨He, -, ⟨%f, Hv⟩, ⟨%g, Ha⟩, ⟨%h, Hp⟩⟩
  iframe He
  isplitl [Hv]; · iexists f; iexact Hv
  isplitl [Ha]; · iexists g; iexact Ha
  iexists h; rw [peerPts_eq]; iexact Hp

/-- What outlasts the region: the barrier's semaphore at zero and the weight. -/
def kept (c : Dev nD) : sProp 𝕄 := iprop(unscopedSems0 c ∗ held c hbmW (wOf m c))

theorem leave (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = after m c from rfl, scopedRest0_eq]
  unfold after kept
  rw [unscoped_sems, accPts_eq, peerPts_eq]
  iintro ⟨⟨%f, Hv⟩, Ha, Hp, Hcs, ⟨Hb, Hs, Hr⟩, HW⟩
  isplitl [Hb HW]; · iframe Hb HW
  isplitl [Hcs Hs Hr]
  · iapply (own_sems (F := F) c).2; iframe Hcs Hs Hr
  isplitl [Hv]; · iexists f; iexact Hv
  isplitl [Ha]; · iexists _; iexact Ha
  iexists _; iexact Hp

/-- The staging semaphores are below all that is owed. -/
theorem stage_waits (c : Dev nD) : (levAts L lv : sProp 𝕄) ⊢ Pipeline.cellsWaits cfgs (dats m) () 0 c :=
  Pipeline.cellsWaits_intro cfgs (dats m) () 0 c fun w s t =>
    mayWait c _ (by fin_cases w <;> fin_cases s <;> decide) _ (by
      rcases t with ⟨_ | _, ht⟩
      · exact Or.inl ⟨rfl, by fin_cases w <;> fin_cases s <;> decide⟩
      · exact Or.inr (Or.inr rfl))

/-! ## The run -/

/-- What a memory holds at the end: the arguments as they were, every device's result at `outAt`, no semaphore counting. -/
def Final (r : PUnit × MemSt nD τ sig (Elt F)) : Prop :=
  (∀ c : Dev nD, r.2.mem ((c : Thread nD τ).loc main_v1) = outAt m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

theorem result_at (c : Dev nD) : (dats m 0 c).arrAt (2 : Fin 3) cfg0.N = outAt m c :=
  (dats m 0 c).arrAt_eq_of_after_last (2 : Fin 3) t0_0 (by decide +kernel) _ fun _ => rfl

set_option maxRecDepth 8000 in
/-- Over any float values, from any memory with every semaphore at zero, every fair run of the eight devices ends, and in
    the state `Final` says. -/
theorem run_main : θ_run defs (onTc (τ := τ) (main (F := F))) (s₀ m ρ) (Final m) :=
  Pipeline.θ_run_region_owing_glob_pf (fun p => (cfgs p).toPCfg) (fun p => (cfgs p).toPCfg_adm) (dats m) () cellOf_inj (0 : Fin 1)
    winFacts0.to₀ osem_ok (Pipeline.PreFacts.none _) EP defs₀ 𝒱₀ m ρ main
    (hmain := fun _ => rfl)
    (hbody := body_ok m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := stage_waits m)
    (G := funds m) (G' := dealt m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show (BI.own (((Emb.inl : Emb (UR sig nD τ) (UR sig nD τ × Counters)).trans embR) (initOf cellSet dutySet)) : sProp 𝕄)
        ⊢ (|==> bigSep Finset.univ (funds m) : sProp 𝕄) from mint m) $$ HX with HG
      imodintro
      isplitl [HP] <;> iassumption)
    (hglob := set_up_all m)
    (hA := fun _ _ => rfl) (hpf := fun _ k => k.elim0)
    (X := entry m) (Y := kept m) (Z := fun _ => iprop(emp))
    (hX := enter m ρ) (hin := inside m) (hout := leave m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold kept
      iintro ⟨⟨Hu, HW⟩, -, HSI⟩
      icombine HSI HW gives %hw
      imod (Pipeline.unscopedSems0_read (X := unscopedSems0 c) (c := c) fupd_intro s') $$ [Hu HSI] with ⟨%hu, HSI⟩
      · isplitl [Hu] <;> iassumption
      imodintro
      isplitr; · ipureintro; exact ⟨Buf.eq_of_forall_mem_univ hw, hu⟩
      iexact HSI)
    (hQ := fun _ h hs => ⟨fun c => ⟨((h c).1 (2 : Fin 3)).trans (result_at m c), ((h c).1 (0 : Fin 3)).trans ((dats m 0 c).arrAt_in 0 rfl _),
        (h c).2.2.1, ((h c).1 (1 : Fin 3)).trans ((dats m 0 c).arrAt_in 1 rfl _)⟩, sem_eq_zero hs fun c => (h c).2.2.2⟩)

end Cert.Pair

end
-- ==== Proof.LogSum.lean ====
/-
Facts about sums, maxima and logarithms of sums of exponentials on the extended reals: a sum taken in blocks is the
whole sum; finite sums and maxima of reals are reals; and the logarithm of a sum of exponentials may be taken after
every exponent is lessened by one real, which is then added back.
-/
module

public import Idealize.ShloMosaic.PureOps.Ideal.Laws
public import Idealize.ShloMosaic.Lib.IdealHost

@[expose] public section

noncomputable section

namespace Cert.Pair

open Idealize.ShloMosaic
open scoped BigOperators

/-- Summing `n` consecutive blocks of `b` terms sums the first `b * n` terms. -/
theorem sum_blocks {M : Type*} [AddCommMonoid M] (b : ℕ) (g : ℕ → M) (n : ℕ) :
    ∑ j ∈ Finset.range n, ∑ k ∈ Finset.range b, g (b * j + k) = ∑ c ∈ Finset.range (b * n), g c := by
  induction n with
  | zero => simp
  | succ n ih => rw [Finset.sum_range_succ, ih, Nat.mul_succ, Finset.sum_range_add]

/-- A sum of reals taken in the extended reals is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of a nonempty family of reals, taken from below all extended reals, is a real. -/
theorem fold_max_real {ι : Type*} (s : Finset ι) (hs : s.Nonempty) (f : ι → ℝ) :
    ∃ m : ℝ, s.fold max (⊥ : EReal) (fun i => (f i : EReal)) = (m : EReal) := by
  induction hs using Finset.Nonempty.cons_induction with
  | singleton a => exact ⟨f a, by rw [Finset.fold_singleton]; exact max_bot_right _⟩
  | cons a s h hs ih =>
    obtain ⟨m, hm⟩ := ih
    exact ⟨max (f a) m, by rw [Finset.fold_cons, hm]; exact (EReal.coe_strictMono.monotone.map_max).symm⟩

/-- The logarithm of a sum of exponentials of reals: every exponent lessened by `m`, and `m` added back. -/
theorem log_sum_exp_shift {ι : Type*} (s : Finset ι) (hs : s.Nonempty) (f : ι → ℝ) (m : ℝ) :
    (m : EReal) + Ideal.log (∑ i ∈ s, Ideal.exp ((f i : EReal) - (m : EReal))) = Ideal.log (∑ i ∈ s, Ideal.exp (f i : EReal)) := by
  have e1 : (∑ i ∈ s, Ideal.exp ((f i : EReal) - (m : EReal))) = ((∑ i ∈ s, Real.exp (f i - m) : ℝ) : EReal) := by
    rw [← coe_sum]
    exact Finset.sum_congr rfl fun i _ => by rw [← EReal.coe_sub, Ideal.exp_coe]
  have e2 : (∑ i ∈ s, Ideal.exp (f i : EReal)) = ((∑ i ∈ s, Real.exp (f i) : ℝ) : EReal) := by
    rw [← coe_sum]
    exact Finset.sum_congr rfl fun i _ => by rw [Ideal.exp_coe]
  have p1 : 0 < ∑ i ∈ s, Real.exp (f i - m) := Finset.sum_pos (fun i _ => Real.exp_pos _) hs
  have p2 : 0 < ∑ i ∈ s, Real.exp (f i) := Finset.sum_pos (fun i _ => Real.exp_pos _) hs
  rw [e1, e2, Ideal.log_coe, Ideal.log_coe, if_neg (not_le.mpr p1), if_neg (not_le.mpr p2), ← EReal.coe_add]
  have e3 : ∑ i ∈ s, Real.exp (f i) = Real.exp m * ∑ i ∈ s, Real.exp (f i - m) := by
    rw [Finset.mul_sum]
    exact Finset.sum_congr rfl fun i _ => by rw [← Real.exp_add]; congr 1; ring
  rw [e3, Real.log_mul (Real.exp_pos m).ne' p1.ne', Real.log_exp]

/-- The f32 pattern of minus infinity is the least extended real. -/
theorem ofBits_neg_inf : Ideal.ofBits .f32 0xFF800000#32 = ⊥ := by simp [Ideal.ofBits, Ideal.ieee]

/-- The f32 pattern of infinity is the greatest extended real. -/
theorem ofBits_inf : Ideal.ofBits .f32 0x7F800000#32 = ⊤ := by simp [Ideal.ofBits, Ideal.ieee]

/-- An extended real whose absolute value is below infinity is a real. -/
theorem real_of_abs_lt_top {a : EReal} (h : max a (-a) < ⊤) : ∃ r : ℝ, a = (r : EReal) := by
  induction a with
  | bot => simp at h
  | top => simp at h
  | coe r => exact ⟨r, rfl⟩

end Cert.Pair

end
-- ==== Proof.OneDevice.lean ====
/-
The kernel's contents on one device (Contents.lean), read at the extended reals entry by entry: a chunk's logits are
inner products, a device's two running sums are the sum of the exponentials of its logits and its logit at the label.
-/
module

public import proofs.«01_k».proof.Proof.Contents
public import proofs.«01_k».proof.Proof.LogSum
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Pair

open Cert.KernelIdeal Cert.KernelIdeal.Gen
open Idealize.ShloMosaic Idealize.ShloMosaic.ValueIdx
open scoped BigOperators

/-- A chunk's logit at row `r` and column `l`: the inner product of the row of `x` and the column. -/
theorem logits_apply (x : Vec Ideal S512x1024 .f32) (w : Vec Ideal S1024x512 .f32) (r : Fin 512) (l : Fin 512) :
    logits (F := Ideal) x w (ix2 r l) = ∑ k : Fin 1024, x (ix2 r k) * w (ix2 k l) := by
  unfold logits
  rw [shapeCast_self]
  refine (Ideal.matmul_plain_apply (M := 512) (K := 1024) (N := 512) none _ _ _ r l).trans ?_
  rw [show constant (F := Ideal) S512x512 .f32 0x00000000#32 (ix2 r l) = 0 from Ideal.ofBits_zero_f32, zero_add]
  rfl

/-- A row's sum over a chunk. -/
theorem rowSum_apply (a : FVec Ideal S512x512 .f32) (r : Fin 512) :
    rowSum (F := Ideal) a (ix2 r (0 : Fin 1)) = ∑ l : Fin 512, a (ix2 r l) := by
  unfold rowSum
  refine (shapeCast_a_a1_apply _ _ r 0).trans ?_
  refine (Ideal.multiReduction_add_single a _ reduces_S512x512_S512 _ _ (ix1 r)).trans ?_
  refine Finset.sum_congr rfl fun l _ => congrArg a ?_
  funext d
  apply Fin.ext
  match d with
  | ⟨0, _⟩ => rfl
  | ⟨1, _⟩ => rfl

/-- The number of the first column of chunk `j` on a device of `z` coordinate `z`, as a number. -/
theorem chunkOff_ofNat (z j : ℕ) : chunkOff (BitVec.ofNat 32 z) j = BitVec.ofNat 32 (8192 * z + 512 * j) := by
  unfold chunkOff
  show BitVec.ofNat 32 (512 * j) + BitVec.ofNat 32 z * BitVec.ofNat 32 8192 = _
  rw [← BitVec.ofNat_mul, ← BitVec.ofNat_add]
  congr 1
  omega

/-- A chunk's logits masked by the label, at a row whose label is `t`. -/
theorem labelLogits_apply (lab : Vec Ideal S512x1 .i32) (a : FVec Ideal S512x512 .f32) (z j t : ℕ) (hz : z < 2) (hj : j < 16)
    (ht : t < 16384) (r l : Fin 512) (hlab : lab (ix2 r (0 : Fin 1)) = BitVec.ofNat 32 t) :
    labelLogits (F := Ideal) (chunkOff (BitVec.ofNat 32 z) j) lab a (ix2 r l)
      = if 8192 * z + 512 * j + l.val = t then a (ix2 r l) else 0 := by
  have hb : broadcastTo S512x512 (shapeCast S512x1 lab shapeCasts_S512x1_S512x1) broadcasts_S512x1_S512x512 (ix2 r l)
      = BitVec.ofNat 32 t := by
    rw [shapeCast_self]
    exact (broadcastTo_apply lab broadcasts_S512x1_S512x512 (ix2 r l) (ix2 r (0 : Fin 1)) fun d =>
      match d with | ⟨0, _⟩ => rfl | ⟨1, _⟩ => rfl).trans hlab
  have hi : addi (iota .tc S512x512 32 [1] iota_S512x512_d1_w32) (broadcast S512x512 (chunkOff (BitVec.ofNat 32 z) j)) (ix2 r l)
      = BitVec.ofNat 32 (8192 * z + 512 * j + l.val) := by
    show iota .tc S512x512 32 [1] iota_S512x512_d1_w32 (ix2 r l) + chunkOff (BitVec.ofNat 32 z) j = _
    rw [iota_single_apply, chunkOff_ofNat, ← BitVec.ofNat_add]
    congr 1
    show l.val + _ = _
    omega
  unfold labelLogits isLabel
  rw [select_apply]
  show Scalar.select (IntOp.cmpi .eq (addi (iota .tc S512x512 32 [1] iota_S512x512_d1_w32) (broadcast S512x512 (chunkOff (BitVec.ofNat 32 z) j)) (ix2 r l))
    (broadcastTo S512x512 (shapeCast S512x1 lab shapeCasts_S512x1_S512x1) broadcasts_S512x1_S512x512 (ix2 r l))) _ (Ideal.ofBits .f32 0x00000000#32) = _
  rw [hb, hi, Ideal.ofBits_zero_f32]
  have hl := l.isLt
  by_cases e : 8192 * z + 512 * j + l.val = t
  · rw [if_pos e, e]
    simp [IntOp.cmpi, Scalar.select]
  · rw [if_neg e]
    have hne : BitVec.ofNat 32 (8192 * z + 512 * j + l.val) ≠ BitVec.ofNat 32 t := fun h => by
      have := congrArg BitVec.toNat h
      rw [BitVec.toNat_ofNat, BitVec.toNat_ofNat, Nat.mod_eq_of_lt (by omega), Nat.mod_eq_of_lt (by omega)] at this
      exact e this
    have hf : (BitVec.ofNat 32 (8192 * z + 512 * j + l.val) == BitVec.ofNat 32 t) = false := beq_eq_false_iff_ne.mpr hne
    simp only [IntOp.cmpi, hf, Scalar.select]
    rfl

variable (x : Vec Ideal S512x1024 .f32) (lab : Vec Ideal S512x1 .i32) (w : ℕ → Vec Ideal S1024x512 .f32) (f : ℕ → EReal)

/-- After `n` chunks the first running sum is the sum of the exponentials of the row's first `512 n` logits. -/
theorem expSum_apply (r : Fin 512) (n : ℕ) (hf : ∀ j < n, ∀ l : Fin 512, logits (F := Ideal) x (w j) (ix2 r l) = f (512 * j + l.val)) :
    expSum (F := Ideal) x w n (ix2 r (0 : Fin 1)) = ∑ c ∈ Finset.range (512 * n), Ideal.exp (f c) := by
  rw [← sum_blocks]
  induction n with
  | zero => exact Ideal.ofBits_zero_f32
  | succ n ih =>
    rw [Finset.sum_range_succ, ← ih fun j hj => hf j (Nat.lt_succ_of_lt hj)]
    show expSum (F := Ideal) x w n (ix2 r 0) + rowSum (F := Ideal) (exp (logits x (w n))) (ix2 r 0) = _
    rw [rowSum_apply, Finset.sum_range]
    congr 1
    refine Finset.sum_congr rfl fun l _ => ?_
    show Ideal.exp (logits (F := Ideal) x (w n) (ix2 r l)) = _
    rw [hf n (Nat.lt_succ_self n) l]

/-- After `n` chunks the second running sum is the logit at the label `t`, if the label is among the first `512 n`
columns of the device. -/
theorem labSum_apply (z t : ℕ) (hz : z < 2) (ht : t < 16384) (r : Fin 512) (hlab : lab (ix2 r (0 : Fin 1)) = BitVec.ofNat 32 t)
    (n : ℕ) (hn : n ≤ 16) (hf : ∀ j < n, ∀ l : Fin 512, logits (F := Ideal) x (w j) (ix2 r l) = f (512 * j + l.val)) :
    labSum (F := Ideal) x lab w (BitVec.ofNat 32 z) n (ix2 r (0 : Fin 1))
      = ∑ c ∈ Finset.range (512 * n), if 8192 * z + c = t then f c else 0 := by
  rw [← sum_blocks 512 (fun c => if 8192 * z + c = t then f c else 0)]
  induction n with
  | zero => exact Ideal.ofBits_zero_f32
  | succ n ih =>
    rw [Finset.sum_range_succ, ← ih (by omega) fun j hj => hf j (Nat.lt_succ_of_lt hj)]
    show labSum (F := Ideal) x lab w (BitVec.ofNat 32 z) n (ix2 r 0)
      + rowSum (F := Ideal) (labelLogits (chunkOff (BitVec.ofNat 32 z) n) lab (logits x (w n))) (ix2 r 0) = _
    rw [rowSum_apply, Finset.sum_range]
    congr 1
    refine Finset.sum_congr rfl fun l _ => ?_
    rw [labelLogits_apply lab _ z n t hz (by omega) ht r l hlab, hf n (Nat.lt_succ_self n) l, Nat.add_assoc]

/-- The two columns of what a device sends are its two running sums. -/
theorem col0_sums (z : BitVec 32) (r : Fin 512) :
    col0 (F := Ideal) (sums x lab w z) (ix2 r (0 : Fin 1)) = expSum (F := Ideal) x w 16 (ix2 r 0) := by
  unfold col0 sums
  rw [shapeCast_self]
  exact concatenate_pair_apply_left (s₁ := S512x1) (s₂ := S512x1) (1 : Fin S512x2.rank) _ _ _ _ rfl (ix2 r (0 : Fin 1)) fun b =>
    match b with
    | ⟨0, _⟩ => by
      show r.val = 0 + 1 * r.val
      omega
    | ⟨1, _⟩ => rfl

theorem col1_sums (z : BitVec 32) (r : Fin 512) :
    col1 (F := Ideal) (sums x lab w z) (ix2 r (0 : Fin 1)) = labSum (F := Ideal) x lab w z 16 (ix2 r 0) := by
  unfold col1 sums
  rw [shapeCast_self]
  exact concatenate_pair_apply_right (s₁ := S512x1) (s₂ := S512x1) (1 : Fin S512x2.rank) _ _ _ _ rfl rfl (ix2 r (0 : Fin 1)) (fun b hb =>
    match b, hb with
    | ⟨0, _⟩, _ => by
      show r.val = 0 + 1 * r.val
      omega
    | ⟨1, _⟩, hb => absurd rfl hb) rfl

/-- A device's result at a row. -/
theorem nll_apply (a b : Vec Ideal S512x2 .f32) (i : S512x1.Idx) :
    nll (F := Ideal) a b i = Ideal.log (col0 (F := Ideal) a i + col0 (F := Ideal) b i) - (col1 (F := Ideal) a i + col1 (F := Ideal) b i) := rfl

end Cert.Pair

end
-- ==== Proof.Devices.lean ====
/-
A device's result, read at the extended reals entry by entry, when every device holds the same `x` and the same labels
and its block of one weight: at a row whose label is a column of the weight, it is the logarithm of the sum of the
exponentials of the row's 16384 logits, less its logit at the label.
-/
module

public import proofs.«01_k».proof.Proof.Swap
public import proofs.«01_k».proof.Proof.OneDevice
public import Idealize.ShloMosaic.Lib.Layout

@[expose] public section

noncomputable section

namespace Cert.Pair

open Cert.KernelIdeal Cert.KernelIdeal.Gen
open Idealize.ShloMosaic Idealize.ShloMosaic.ValueIdx
open scoped BigOperators

/-- The shape of the whole weight. -/
abbrev S1024x16384 : Shape := ⟨2, ![1024, 16384]⟩

/-- Row `r`'s logit at column `n` of the whole weight (zero beyond its columns). -/
def logit (X : Vec Ideal S512x1024 .f32) (W : Vec Ideal S1024x16384 .f32) (r : Fin 512) (n : ℕ) : EReal :=
  if h : n < 16384 then ∑ k : Fin 1024, X (ix2 r k) * W (ix2 k ⟨n, h⟩) else 0

/-- The block of the whole weight on device `c`. -/
abbrev part (W : Vec Ideal S1024x16384 .f32) (c : Dev nD) : Vec Ideal S1024x8192 .f32 :=
  Layout.blockN ⟨2, ![1024, 8192]⟩ ⟨2, ![1024, 16384]⟩ (Layout.meshBlock [2, 2, 2] ![[], [2]] c) W

/-- The kernel's `z` coordinate is the device number's last bit. -/
theorem zOf_eq (c : Dev nD) : zOf c = BitVec.ofNat 32 (c.val % 2) := by revert c; decide +kernel

theorem mate_mod (c : Dev nD) : (mate c).val % 2 = 1 - c.val % 2 := by revert c; decide

/-- The mesh's last axis cuts the weight's columns: the device's block is the one of its `z` coordinate. -/
theorem block_coord (c : Dev nD) : Layout.meshLin [2, 2, 2] c.val [2] = c.val % 2 := by revert c; decide +kernel

/-- Column `l` of chunk `j` of device `c`'s block is that column of the whole weight. -/
theorem chunkOf_part (W : Vec Ideal S1024x16384 .f32) (c : Dev nD) (j : ℕ) (hj : j < 16) (k : Fin 1024) (l : Fin 512)
    (h : 8192 * (c.val % 2) + (512 * j + l.val) < 16384) :
    chunkOf (F := Ideal) (part W c) j (ix2 k l) = W (ix2 k ⟨8192 * (c.val % 2) + (512 * j + l.val), h⟩) := by
  unfold chunkOf
  refine congrArg W ?_
  funext d
  apply Fin.ext
  match d with
  | ⟨0, _⟩ =>
    show 0 * 1024 + (0 + 1 * k.val) = k.val
    omega
  | ⟨1, _⟩ =>
    show Layout.meshLin [2, 2, 2] c.val [2] * 8192 + (512 * (j % 16) + 1 * l.val) = 8192 * (c.val % 2) + (512 * j + l.val)
    rw [block_coord, Nat.mod_eq_of_lt hj]
    omega

section Rows
variable (X : Vec Ideal S512x1024 .f32) (W : Vec Ideal S1024x16384 .f32) (L : Vec Ideal S512x1 .i32)

/-- A chunk's logits are the whole weight's at its columns. -/
theorem chunk_logit (c : Dev nD) (r : Fin 512) (j : ℕ) (hj : j < 16) (l : Fin 512) :
    logits (F := Ideal) X (chunkOf (part W c) j) (ix2 r l) = logit X W r (8192 * (c.val % 2) + (512 * j + l.val)) := by
  have hl := l.isLt
  have h : 8192 * (c.val % 2) + (512 * j + l.val) < 16384 := by omega
  rw [logits_apply, logit, dif_pos h]
  exact Finset.sum_congr rfl fun k _ => by rw [chunkOf_part W c j hj k l h]

/-- What device `c` sends, at a row with label `t`: the sum of the exponentials of the logits of its half of the
columns, and its logit at the label, or zero if the label lies in the other half. -/
theorem sent_apply (c : Dev nD) (r : Fin 512) (t : ℕ) (ht : t < 16384) (hlab : L (ix2 r (0 : Fin 1)) = BitVec.ofNat 32 t) :
    col0 (F := Ideal) (sums X L (chunkOf (part W c)) (zOf c)) (ix2 r (0 : Fin 1))
        = ∑ n ∈ Finset.range 8192, Ideal.exp (logit X W r (8192 * (c.val % 2) + n))
      ∧ col1 (F := Ideal) (sums X L (chunkOf (part W c)) (zOf c)) (ix2 r (0 : Fin 1))
        = ∑ n ∈ Finset.range 8192, if 8192 * (c.val % 2) + n = t then logit X W r (8192 * (c.val % 2) + n) else 0 := by
  rw [col0_sums, col1_sums, zOf_eq]
  exact ⟨expSum_apply X _ (fun n => logit X W r (8192 * (c.val % 2) + n)) r 16 fun j hj l => chunk_logit X W c r j hj l,
    labSum_apply X L _ (fun n => logit X W r (8192 * (c.val % 2) + n)) (c.val % 2) t (Nat.mod_lt _ (by decide)) ht r hlab 16
      le_rfl fun j hj l => chunk_logit X W c r j hj l⟩

end Rows

/-- A device's half and its mate's, in either order, are the two halves. -/
theorem halves (g : ℕ → EReal) (c : Dev nD) :
    ∑ n ∈ Finset.range 8192, g (8192 * (c.val % 2) + n) + ∑ n ∈ Finset.range 8192, g (8192 * ((mate c).val % 2) + n)
      = ∑ n ∈ Finset.range 16384, g n := by
  have e : ∑ n ∈ Finset.range 8192, g (8192 * 0 + n) + ∑ n ∈ Finset.range 8192, g (8192 * 1 + n) = ∑ n ∈ Finset.range 16384, g n := by
    have h := sum_blocks 8192 g 2
    rwa [Finset.sum_range_succ, Finset.sum_range_one] at h
  rw [mate_mod]
  obtain h | h : c.val % 2 = 0 ∨ c.val % 2 = 1 := by omega
  · rw [h]; exact e
  · rw [h, add_comm]; exact e

/-- Device `c`'s result at row `r`, whose label is `t`. -/
theorem outAt_apply (m : (ℓ : Loc nD τ sig) → Buf (Elt Ideal) ℓ) (X : Vec Ideal S512x1024 .f32) (W : Vec Ideal S1024x16384 .f32)
    (L : Vec Ideal S512x1 .i32) (hx : ∀ c, xOf m c = X) (hw : ∀ c, wOf m c = part W c) (hl : ∀ c, labOf m c = L) (c : Dev nD)
    (r : Fin 512) (t : ℕ) (ht : t < 16384) (hlab : L (ix2 r (0 : Fin 1)) = BitVec.ofNat 32 t) :
    outAt m c (ix2 r (0 : Fin 1)) = Ideal.log (∑ n ∈ Finset.range 16384, Ideal.exp (logit X W r n)) - logit X W r t := by
  unfold outAt sumsOf
  rw [nll_apply, hx c, hl c, hw c, hx (mate c), hl (mate c), hw (mate c)]
  have h1 := sent_apply X W L c r t ht hlab
  have h2 := sent_apply X W L (mate c) r t ht hlab
  rw [h1.1, h1.2, h2.1, h2.2, halves (fun n => Ideal.exp (logit X W r n)) c,
    halves (fun n => if n = t then logit X W r n else 0) c, Finset.sum_ite_eq' (Finset.range 16384) t (fun n => logit X W r n),
    if_pos (Finset.mem_range.mpr ht)]

end Cert.Pair

end
-- ==== Proof.Reference.lean ====
/-
The reference's result, read at the extended reals entry by entry. Its logits are inner products of a row of `x` and a
column of the whole weight; at a row whose label is a column, the entry it gathers is the logit at the label, and its
result is the row's greatest logit plus the logarithm of the sum of the exponentials of the logits lessened by it, minus
the gathered logit.
-/
module

public import proofs.«01_k».proof.Proof.Gen.ReferenceIdeal.Run
public import proofs.«01_k».proof.Proof.LogSum
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.StableHlo.Predicate
public import Idealize.ShloMosaic.Lib.Pipeline.Value

@[expose] public section

noncomputable section

namespace Cert.Pair.Ref

open Cert.ReferenceIdeal Cert.ReferenceIdeal.Gen
open Idealize.ShloMosaic Idealize.ShloMosaic.ValueIdx
open scoped BigOperators

variable (X : FVec Ideal S512x1024 .f32) (W : FVec Ideal S1024x16384 .f32) (L : IVec S512x1 32)

/-- The reference's logits. -/
def dots : FVec Ideal S512x16384 .f32 := Host.dotGeneral dot_S512x1024_S1024x16384_S512x16384_1_0_0_1_n_n none X W

/-- Each row's greatest entry. -/
def top (a : FVec Ideal S512x16384 .f32) : FVec Ideal S512 .f32 :=
  Host.reduce FloatOps.maximumf a (constant (F := Ideal) S_ .f32 0xFF800000#32) reducesTo_S512x16384_S512_d1 h_S_

/-- Each row's sum. -/
def total (a : FVec Ideal S512x16384 .f32) : FVec Ideal S512 .f32 :=
  Host.reduceAdd a (constant (F := Ideal) S_ .f32 0x00000000#32) reducesTo_S512x16384_S512_d1 h_S_

/-- The logits less their row's greatest, exponentiated. -/
def shifted (a : FVec Ideal S512x16384 .f32) : FVec Ideal S512x16384 .f32 :=
  Host.exp (subf a (broadcastInDim S512x16384 ![0, 1] bcast_S512x1_S512x16384_0_1 (broadcastInDim S512x1 ![0] bcast_S512_S512x1_0 (top a))))

/-- An index a program would read, counted from the end when negative. -/
def wrapped (v : IVec S512 32) (n : BitVec 32) : IVec S512 32 :=
  select (cmpi .slt v (broadcastInDim S512 ![] bcast_S_S512 (constantI S_ 32 0#32))) (addi v (broadcastInDim S512 ![] bcast_S_S512 (constantI S_ 32 n))) v

/-- The entry each row reads: its own row, and its label's column. -/
def places : IVec S512x2 32 :=
  concatenate S512x2 1 [⟨S512x1, broadcastInDim S512x1 ![0] bcast_S512_S512x1_0 (wrapped (iotaInDim S512 32 0) 512#32)⟩,
    ⟨S512x1, broadcastInDim S512x1 ![0] bcast_S512_S512x1_0 (wrapped (shapeCast S512 L shapeCasts_S512x1_S512) 16384#32)⟩] concatenates_S512x1_S512x1_S512x2_d1

/-- Each row's greatest logit plus the logarithm of the sum of its shifted exponentials, as a column. -/
def logSum (a : FVec Ideal S512x16384 .f32) : FVec Ideal S512x1 .f32 :=
  addf (broadcastInDim S512x1 ![0] bcast_S512_S512x1_0 (top a)) (Host.log (broadcastInDim S512x1 ![0] bcast_S512_S512x1_0 (total (shifted a))))

/-- The reference's result. -/
def result : FVec Ideal S512x1 .f32 :=
  shapeCast S512x1 (subf (shapeCast S512 (logSum (dots X W)) shapeCasts_S512x1_S512)
    (Host.gather gather_S512x16384_S512x2_S512_n_01_n_n_01_1_11 (dots X W) (places L))) shapeCasts_S512_S512x1

/-- A logit is an inner product. -/
theorem dots_apply (r : Fin 512) (n : Fin 16384) : dots X W (ix2 r n) = ∑ k : Fin 1024, X (ix2 r k) * W (ix2 k n) := by
  unfold dots
  simp only [Host.dotGeneral]
  refine (Ideal.matmul_plain_apply (M := 512) (K := 1024) (N := 16384) none X W (fun _ => 0) r n).trans ?_
  rw [zero_add]

/-- A vector laid out as a column, at a row. -/
theorem column_apply {α : Type} (v : S512.Idx → α) (r : Fin 512) (z : Fin 1) :
    broadcastInDim S512x1 ![0] bcast_S512_S512x1_0 v (ix2 r z) = v (ix1 r) :=
  broadcastInDim_apply ![0] bcast_S512_S512x1_0 v (ix2 r z) (ix1 r) fun d => match d with | ⟨0, _⟩ => rfl

/-- A column read as a vector, at a row. -/
theorem vector_apply {α : Type} (v : S512x1.Idx → α) (r : Fin 512) :
    shapeCast S512 v shapeCasts_S512x1_S512 (ix1 r) = v (ix2 r (0 : Fin 1)) :=
  shapeCast_apply v shapeCasts_S512x1_S512 (ix1 r) (ix2 r (0 : Fin 1)) (by
    rw [Shape.rowMajor_val_two, Shape.rowMajor_val_one]
    show r.val * 1 + 0 = r.val
    omega)

/-- Reducing the column axis leaves the rows. -/
theorem reduces_row : S512x16384.Reduces [1] S512 := by decide

/-- A row's greatest entry, where the row's entries are reals, is a real. -/
theorem top_real (a : FVec Ideal S512x16384 .f32) (r : Fin 512) (f : Fin 16384 → ℝ) (hf : ∀ n, a (ix2 r n) = (f n : EReal)) :
    ∃ M : ℝ, top a (ix1 r) = (M : EReal) := by
  obtain ⟨M, hM⟩ := fold_max_real (Finset.univ : Finset (Fin 16384)) ⟨0, Finset.mem_univ _⟩ f
  refine ⟨M, ?_⟩
  unfold top
  refine (congrFun (hostReduce_maximumf_eq_multiReduction (axes := [1]) a 0xFF800000#32 reducesTo_S512x16384_S512_d1 h_S_ reduces_row (.inl rfl) rfl) (ix1 r)).trans ?_
  refine (Ideal.multiReduction_maximumf_single a _ _ _ _ (ix1 r)).trans ?_
  rw [← hM]
  refine congrArg₂ (fun b g => Finset.fold max b g Finset.univ) ofBits_neg_inf (funext fun n => ?_)
  refine (congrArg a ?_).trans (hf n)
  funext d
  apply Fin.ext
  match d with
  | ⟨0, _⟩ => rfl
  | ⟨1, _⟩ => rfl

/-- A row's sum. -/
theorem total_apply (a : FVec Ideal S512x16384 .f32) (r : Fin 512) : total a (ix1 r) = ∑ n : Fin 16384, a (ix2 r n) := by
  unfold total
  refine (hostReduceAdd_apply a _ _ _ (ix1 r)).trans ?_
  refine (Ideal.hostReduceAdd_single reducesTo_S512x16384_S512_d1 reduces_row a _ (ix1 r)).trans ?_
  rw [show constant (F := Ideal) S_ .f32 0x00000000#32 _ = 0 from Ideal.ofBits_zero_f32, zero_add]
  refine Finset.sum_congr rfl fun n _ => congrArg a ?_
  funext d
  apply Fin.ext
  match d with
  | ⟨0, _⟩ => rfl
  | ⟨1, _⟩ => rfl

theorem shifted_apply (a : FVec Ideal S512x16384 .f32) (r : Fin 512) (n : Fin 16384) :
    shifted a (ix2 r n) = Ideal.exp (a (ix2 r n) - top a (ix1 r)) := by
  have h : broadcastInDim S512x16384 ![0, 1] bcast_S512x1_S512x16384_0_1 (broadcastInDim S512x1 ![0] bcast_S512_S512x1_0 (top a)) (ix2 r n)
      = top a (ix1 r) :=
    (broadcastInDim_apply ![0, 1] bcast_S512x1_S512x16384_0_1 _ (ix2 r n) (ix2 r (0 : Fin 1)) fun d =>
      match d with | ⟨0, _⟩ => rfl | ⟨1, _⟩ => rfl).trans (column_apply (top a) r 0)
  show Ideal.exp (a (ix2 r n) - _) = _
  rw [h]

/-- An index that is not negative is not wrapped. -/
theorem wrapped_apply (v : IVec S512 32) (k : BitVec 32) (r : Fin 512) (n : ℕ) (hn : n < 2 ^ 31) (hv : v (ix1 r) = BitVec.ofNat 32 n) :
    wrapped v k (ix1 r) = BitVec.ofNat 32 n := by
  unfold wrapped
  rw [select_apply]
  show Scalar.select (IntOp.cmpi .slt (v (ix1 r)) 0#32) _ (v (ix1 r)) = _
  rw [hv]
  have h : BitVec.slt (BitVec.ofNat 32 n) 0#32 = false := by
    rw [BitVec.slt_eq_decide, StableHlo.Predicate.toInt_ofNat_small _ hn]
    simp
  simp only [IntOp.cmpi, h, Scalar.select]
  rfl

/-- The place row `r` reads. -/
theorem places_apply (r : Fin 512) (t : ℕ) (ht : t < 16384) (hlab : L (ix2 r (0 : Fin 1)) = BitVec.ofNat 32 t) :
    places L (ix2 r (0 : Fin 2)) = BitVec.ofNat 32 r.val ∧ places L (ix2 r (1 : Fin 2)) = BitVec.ofNat 32 t := by
  have hr := r.isLt
  unfold places
  constructor
  · refine (concatenate_pair_apply_left (s₁ := S512x1) (s₂ := S512x1) (1 : Fin S512x2.rank) _ _ _ (ix2 r (0 : Fin 2)) rfl (ix2 r (0 : Fin 1)) fun b =>
      match b with | ⟨0, _⟩ => rfl | ⟨1, _⟩ => rfl).trans ?_
    rw [column_apply]
    exact wrapped_apply _ _ r r.val (by omega) rfl
  · refine (concatenate_pair_apply_right (s₁ := S512x1) (s₂ := S512x1) (1 : Fin S512x2.rank) _ _ _ (ix2 r (1 : Fin 2)) rfl rfl (ix2 r (0 : Fin 1)) (fun b hb =>
      match b, hb with
      | ⟨0, _⟩, _ => rfl
      | ⟨1, _⟩, hb => absurd rfl hb) rfl).trans ?_
    rw [column_apply]
    exact wrapped_apply _ _ r t (by omega) ((vector_apply L r).trans hlab)

/-- What row `r` gathers, where its place names row `r` and column `t`. -/
theorem gather_apply (a : FVec Ideal S512x16384 .f32) (p : IVec S512x2 32) (r : Fin 512) (t : Fin 16384)
    (h0 : p (ix2 r (0 : Fin 2)) = BitVec.ofNat 32 r.val) (h1 : p (ix2 r (1 : Fin 2)) = BitVec.ofNat 32 t.val) :
    Host.gather gather_S512x16384_S512x2_S512_n_01_n_n_01_1_11 a p (ix1 r) = a (ix2 r t) := by
  have hr := r.isLt
  have ht := t.isLt
  unfold Host.gather
  refine congrArg a (funext fun d => Fin.ext ?_)
  have hkept : ∀ d, d ∉ gather_S512x16384_S512x2_S512_n_01_n_n_01_1_11.sKept := by decide
  have hbatch : ∀ d, d ∉ gather_S512x16384_S512x2_S512_n_01_n_n_01_1_11.operandBatchingDims := by decide
  have hmap : ∀ d, d ∈ gather_S512x16384_S512x2_S512_n_01_n_n_01_1_11.startIndexMap := by decide
  show GatherDims.start _ (ix1 r) p d + GatherDims.batchCoord _ (ix1 r) d + GatherDims.offCoord _ (ix1 r) d = _
  rw [GatherDims.batchCoord_eq_zero _ _ _ (hbatch d), GatherDims.offCoord_eq_zero _ _ _ (hkept d)]
  simp only [Nat.add_zero]
  unfold GatherDims.start
  rw [dif_pos (hmap d)]
  match d with
  | ⟨0, _⟩ =>
    have e : gather_S512x16384_S512x2_S512_n_01_n_n_01_1_11.siIdx (ix1 r) ⟨0, by decide⟩ = ix2 r (0 : Fin 2) :=
      funext fun b => Fin.ext (match b with | ⟨0, _⟩ => rfl | ⟨1, _⟩ => rfl)
    show min (p (gather_S512x16384_S512x2_S512_n_01_n_n_01_1_11.siIdx (ix1 r) ⟨0, by decide⟩)).toInt.toNat 511 = r.val
    rw [e, h0, StableHlo.Predicate.toInt_ofNat_small _ (by omega)]
    omega
  | ⟨1, _⟩ =>
    have e : gather_S512x16384_S512x2_S512_n_01_n_n_01_1_11.siIdx (ix1 r) ⟨1, by decide⟩ = ix2 r (1 : Fin 2) :=
      funext fun b => Fin.ext (match b with | ⟨0, _⟩ => rfl | ⟨1, _⟩ => rfl)
    show min (p (gather_S512x16384_S512x2_S512_n_01_n_n_01_1_11.siIdx (ix1 r) ⟨1, by decide⟩)).toInt.toNat 16383 = t.val
    rw [e, h1, StableHlo.Predicate.toInt_ofNat_small _ (by omega)]
    omega

/-- A row of `logSum`, where the row's entries are reals: the logarithm of the sum of their exponentials. -/
theorem logSum_apply (a : FVec Ideal S512x16384 .f32) (r : Fin 512) (f : Fin 16384 → ℝ) (hf : ∀ n, a (ix2 r n) = (f n : EReal)) :
    logSum a (ix2 r (0 : Fin 1)) = Ideal.log (∑ n : Fin 16384, Ideal.exp (a (ix2 r n))) := by
  obtain ⟨M, hM⟩ := top_real a r f hf
  have e : logSum a (ix2 r (0 : Fin 1)) = broadcastInDim S512x1 ![0] bcast_S512_S512x1_0 (top a) (ix2 r (0 : Fin 1))
      + Ideal.log (broadcastInDim S512x1 ![0] bcast_S512_S512x1_0 (total (shifted a)) (ix2 r (0 : Fin 1))) := by
    unfold logSum
    rw [addf_apply]
    simp only [Host.log, Ideal.addf_def, Ideal.hostUnary_log_def]
  have h1 : ∑ n : Fin 16384, shifted a (ix2 r n) = ∑ n : Fin 16384, Ideal.exp ((f n : EReal) - (M : EReal)) :=
    Finset.sum_congr rfl fun n _ => by rw [shifted_apply, hM, hf n]
  have h2 : ∑ n : Fin 16384, Ideal.exp (a (ix2 r n)) = ∑ n : Fin 16384, Ideal.exp (f n : EReal) :=
    Finset.sum_congr rfl fun n _ => by rw [hf n]
  rw [e, column_apply, column_apply, total_apply, hM, h1, h2]
  exact log_sum_exp_shift Finset.univ ⟨0, Finset.mem_univ _⟩ f M

/-- The reference's result at a row whose label is column `t` and whose logits are reals: the logarithm of the sum of the
logits' exponentials, less the logit at the label. -/
theorem result_apply (r : Fin 512) (t : Fin 16384) (hlab : L (ix2 r (0 : Fin 1)) = BitVec.ofNat 32 t.val) (f : Fin 16384 → ℝ)
    (hf : ∀ n, dots X W (ix2 r n) = (f n : EReal)) :
    result X W L (ix2 r (0 : Fin 1)) = Ideal.log (∑ n : Fin 16384, Ideal.exp (dots X W (ix2 r n))) - dots X W (ix2 r t) := by
  have hp := places_apply L r t.val t.isLt hlab
  unfold result
  refine (shapeCast_a_a1_apply _ _ r 0).trans ?_
  rw [subf_apply, gather_apply (dots X W) (places L) r t hp.1 hp.2, vector_apply, logSum_apply (dots X W) r f hf]

end Cert.Pair.Ref

end
-- ==== Proof.Sane.lean ====
/-
What the precondition says of one device's arguments: `x` and the weight's block hold reals, and every label is the
number of a column of the whole weight.
-/
module

public import proofs.«01_k».proof.Proof.Gen.Pre_sane_KernelIdeal
public import proofs.«01_k».proof.Proof.LogSum
public import Idealize.ShloMosaic.Lib.ReduceAll
public import Idealize.ShloMosaic.Lib.ValueLayout
public import Idealize.ShloMosaic.Lib.Pipeline.Value

@[expose] public section

noncomputable section

namespace Cert.Pair.Sane

open Cert.Pre_sane_KernelIdeal Cert.Pre_sane_KernelIdeal.Facts
open Idealize.ShloMosaic Idealize.ShloMosaic.ValueIdx

/-- The one index of a scalar. -/
instance one_index : Subsingleton S_.Idx := ⟨fun a b => funext fun d => d.elim0⟩

/-- An entry whose absolute value compares below infinity is a real. -/
theorem real_of_flag (a : EReal)
    (h : FloatOps.cmpf (F := Ideal) (φ := .f32) .olt (max a (-a)) (FloatOps.ofBits (F := Ideal) .f32 0x7F800000#32) = 1#1) :
    ∃ r : ℝ, a = (r : EReal) := by
  refine real_of_abs_lt_top ?_
  rw [Ideal.cmpf_def] at h
  have e : FloatOps.ofBits (F := Ideal) .f32 0x7F800000#32 = (⊤ : EReal) := ofBits_inf
  rw [e] at h
  by_contra hn
  have h0 : BitVec.ofBool (decide (max a (-a) < (⊤ : EReal))) = 1#1 := h
  rw [decide_eq_false hn] at h0
  exact absurd h0 (by decide)

/-- A word from 0 to 16383, read signed, is a column's number. -/
theorem column_of_flags (b : BitVec 32) (h0 : IntOp.cmpi .sge b 0#32 = 1#1) (h1 : IntOp.cmpi .slt b 16384#32 = 1#1) :
    ∃ t : Fin 16384, b = BitVec.ofNat 32 t.val := by
  have a0 : (0 : Int) ≤ b.toInt := by
    by_contra hn
    have : BitVec.sle 0#32 b = false := by
      rw [BitVec.sle_eq_decide]
      exact decide_eq_false (by simpa using hn)
    simp [IntOp.cmpi, this] at h0
  have a1 : b.toInt < 16384 := by
    by_contra hn
    have : BitVec.slt b 16384#32 = false := by
      rw [BitVec.slt_eq_decide]
      exact decide_eq_false (by simpa using hn)
    simp [IntOp.cmpi, this] at h1
  have e := BitVec.toInt_eq_toNat_cond b
  have hb := b.isLt
  have ht : b.toNat < 16384 := by
    split at e <;> omega
  exact ⟨⟨b.toNat, ht⟩, by simp⟩

/-- What the precondition says, entry by entry. -/
theorem decoded (x : FVec Ideal S512x1024 .f32) (w : FVec Ideal S1024x8192 .f32) (lab : IVec S512x1 32)
    (h : fn (F := Ideal) x w lab = fun _ => 1#1) :
    (∀ i, ∃ r : ℝ, x i = (r : EReal)) ∧ (∀ i, ∃ r : ℝ, w i = (r : EReal)) ∧ ∀ i, ∃ t : Fin 16384, lab i = BitVec.ofNat 32 t.val := by
  have h0 := congrFun h (fun d => d.elim0)
  obtain ⟨h012, h3⟩ := IntOp.andi_eq_one.1 h0
  obtain ⟨h01, h2⟩ := IntOp.andi_eq_one.1 h012
  obtain ⟨hx, hw⟩ := IntOp.andi_eq_one.1 h01
  refine ⟨fun i => real_of_flag (x i) ?_, fun i => real_of_flag (w i) ?_, fun i => column_of_flags (lab i) ?_ ?_⟩
  · exact Host.reduce_andi_all _ _ _ _ _ hx i
  · exact Host.reduce_andi_all _ _ _ _ _ hw i
  · exact Host.reduce_andi_all _ _ _ _ _ h2 i
  · exact Host.reduce_andi_all _ _ _ _ _ h3 i

end Cert.Pair.Sane

end
-- ==== Proof.Agree.lean ====
/-
The kernel's result on every device is the reference's result, where the devices hold copies of one `x` and one array of
labels and their blocks of one weight, and their arguments meet the precondition.
-/
module

public import proofs.«01_k».proof.Proof.Devices
public import proofs.«01_k».proof.Proof.Reference
public import proofs.«01_k».proof.Proof.Sane

@[expose] public section

noncomputable section

namespace Cert.Pair

open Cert.KernelIdeal Cert.KernelIdeal.Gen
open Idealize.ShloMosaic Idealize.ShloMosaic.ValueIdx
open scoped BigOperators

/-- Every entry of the whole weight is an entry of the block of device 0 or of device 1. -/
theorem part_covers (W : Vec Ideal S1024x16384 .f32) (k : Fin 1024) (n : Fin 16384) : ∃ (c : Dev nD) (l : Fin 8192), part W c (ix2 k l) = W (ix2 k n) := by
  have hn := n.isLt
  let c : Dev nD := ⟨n.val / 8192, by show n.val / 8192 < 8; omega⟩
  refine ⟨c, ⟨n.val % 8192, Nat.mod_lt _ (by decide)⟩, congrArg W (funext fun d => Fin.ext ?_)⟩
  match d with
  | ⟨0, _⟩ =>
    show 0 * 1024 + k.val = k.val
    omega
  | ⟨1, _⟩ =>
    show Layout.meshLin [2, 2, 2] c.val [2] * 8192 + n.val % 8192 = n.val
    rw [block_coord]
    show n.val / 8192 % 2 * 8192 + n.val % 8192 = n.val
    omega

/-- A logit of real rows and columns is a real. -/
theorem logit_real (X : Vec Ideal S512x1024 .f32) (W : Vec Ideal S1024x16384 .f32) (hX : ∀ i, ∃ a : ℝ, X i = (a : EReal))
    (hW : ∀ k n, ∃ a : ℝ, W (ix2 k n) = (a : EReal)) (r : Fin 512) (n : Fin 16384) :
    ∃ a : ℝ, ∑ k : Fin 1024, X (ix2 r k) * W (ix2 k n) = (a : EReal) := by
  choose f hf using hX
  choose g hg using hW
  refine ⟨∑ k : Fin 1024, f (ix2 r k) * g k n, ?_⟩
  rw [← coe_sum]
  exact Finset.sum_congr rfl fun k _ => by rw [hf, hg, EReal.coe_mul]

/-- Every device's result is the reference's. -/
theorem outAt_eq_result (m : (ℓ : Loc nD τ sig) → Buf (Elt Ideal) ℓ) (X : Vec Ideal S512x1024 .f32) (W : Vec Ideal S1024x16384 .f32)
    (L : Vec Ideal S512x1 .i32) (hx : ∀ c, xOf m c = X) (hw : ∀ c, wOf m c = part W c) (hl : ∀ c, labOf m c = L)
    (hpre : ∀ c, Cert.Pre_sane_KernelIdeal.fn (F := Ideal) (xOf m c) (wOf m c) (labOf m c) = fun _ => 1#1) (c : Dev nD) :
    outAt m c = Ref.result X W L := by
  have hX : ∀ i, ∃ a : ℝ, X i = (a : EReal) := fun i => by
    have h := (Sane.decoded _ _ _ (hpre 0)).1 i
    rwa [hx 0] at h
  have hW : ∀ k n, ∃ a : ℝ, W (ix2 k n) = (a : EReal) := fun k n => by
    obtain ⟨c, l, e⟩ := part_covers W k n
    have h := (Sane.decoded _ _ _ (hpre c)).2.1 (ix2 k l)
    rwa [hw c, e] at h
  have hL : ∀ i, ∃ t : Fin 16384, L i = BitVec.ofNat 32 t.val := fun i => by
    have h := (Sane.decoded _ _ _ (hpre 0)).2.2 i
    rwa [hl 0] at h
  funext i
  obtain ⟨r, z, rfl⟩ : ∃ (r : Fin 512) (z : Fin 1), i = ix2 r z := ⟨i 0, i 1, eq_ix2 i⟩
  obtain rfl : z = 0 := Subsingleton.elim _ _
  show outAt m c (ix2 r (0 : Fin 1)) = Ref.result X W L (ix2 r (0 : Fin 1))
  obtain ⟨t, ht⟩ := hL (ix2 r (0 : Fin 1))
  choose f hf using logit_real X W hX hW r
  have hd : ∀ n : Fin 16384, Ref.dots X W (ix2 r n) = logit X W r n.val := fun n => by
    rw [Ref.dots_apply, logit, dif_pos n.isLt]
  have hs : ∑ n : Fin 16384, Ideal.exp (Ref.dots X W (ix2 r n)) = ∑ n : Fin 16384, Ideal.exp (logit X W r n.val) :=
    Finset.sum_congr rfl fun n _ => by rw [hd n]
  rw [outAt_apply m X W L hx hw hl c r t.val t.isLt ht,
    Ref.result_apply X W L r t ht f (fun n => (Ref.dots_apply X W r n).trans (hf n)), hd t, hs, Finset.sum_range]

end Cert.Pair

end
-- ==== Proof.lean ====
/-
The certificate: the three programs run, end with their arguments unchanged and every semaphore at zero, and at the
extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Launch
public import proofs.«01_k».proof.Proof.Agree
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sane_KernelIdeal
public import proofs.«01_k».proof.Proof.Gen.Pre_sane_ReferenceIdeal
public import Idealize.ShloMosaic.Adequacy
public import Idealize.ShloMosaic.Init

@[expose] public section

noncomputable section

namespace Cert.Proof

open Idealize.ShloMosaic Idealize.SL.Sem

/-- Over any float values the kernel runs, its arguments end unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.Pair.run_main m ρ)

set_option smartUnfolding false in
set_option maxRecDepth 20000 in
/-- The kernel's frame, at the machine's floats: the program is the same text. -/
theorem frame_kernel : Cert.quiescent_Kernel := fun m ρ _ => frame_any (F := Bits) m ρ

/-- The same at the extended reals. -/
theorem frame_ideal : Cert.quiescent_KernelIdeal := fun m ρ _ => frame_any (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- At the extended reals, from arguments meeting the precondition, every device's result is the reference's. -/
theorem agrees : Cert.algebraic_KernelIdeal_ReferenceIdeal_pre_sane_KernelIdeal := fun m g m' g' hpre hargs =>
  ⟨Cert.Pair.Ref.result _ _ _,
    (θ_run Cert.KernelIdeal.defs _ _).mono (fun _ h c => ⟨(h.1 c).1.trans
      (Cert.Pair.outAt_eq_result m _ _ _ (fun c => (hargs c).1) (fun c => (hargs c).2.1) (fun c => (hargs c).2.2) hpre c), (h.1 c).2⟩)
      (Cert.Pair.run_main m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_sane_KernelIdeal.Gen.facts,
    Cert.Pre_sane_ReferenceIdeal.Gen.facts, frame_kernel, frame_ideal, fun m ρ _ => frame_ideal m ρ trivial, frame_reference,
    fun m ρ _ => frame_reference m ρ trivial, trivial, agrees⟩

end Cert.Proof

end
